-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1_0)) (v1 : (c : Dev Cert.KernelIdeal.nD) → Buf (Elt Ideal) ((c.tc : Thread Cert.KernelIdeal.nD Cert.KernelIdeal.τ).loc Cert.KernelIdeal.main_v2)) (v2 : (c : Dev Cert.KernelIdeal.nD) → Buf (Elt Ideal) ((c.tc : Thread Cert.KernelIdeal.nD Cert.KernelIdeal.τ).loc Cert.KernelIdeal.main_v1_2)) (v3 : (c : Dev Cert.KernelIdeal.nD) → Buf (Elt Ideal) ((c.tc : Thread Cert.KernelIdeal.nD Cert.KernelIdeal.τ).loc Cert.KernelIdeal.main_v3)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1_0) = v0 c
          ∧ r.2.mem ((c.tc : Thread Cert.KernelIdeal.nD Cert.KernelIdeal.τ).loc Cert.KernelIdeal.main_v2) = v1 c
          ∧ r.2.mem ((c.tc : Thread Cert.KernelIdeal.nD Cert.KernelIdeal.τ).loc Cert.KernelIdeal.main_v1_2) = v2 c
          ∧ r.2.mem ((c.tc : Thread Cert.KernelIdeal.nD Cert.KernelIdeal.τ).loc Cert.KernelIdeal.main_v3) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v3_0) = v0 c
          ∧ r.2.mem ((c.tc : Thread Cert.ReferenceIdeal.nD Cert.ReferenceIdeal.τ).loc Cert.ReferenceIdeal.main_v3_1) = v1 c
          ∧ r.2.mem ((c.tc : Thread Cert.ReferenceIdeal.nD Cert.ReferenceIdeal.τ).loc Cert.ReferenceIdeal.main_v3_2) = v2 c
          ∧ r.2.mem ((c.tc : Thread Cert.ReferenceIdeal.nD Cert.ReferenceIdeal.τ).loc Cert.ReferenceIdeal.main_v3_3) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S6x256x1152 : Shape := ⟨3, ![6, 256, 1152]⟩
abbrev S1152x13824 : Shape := ⟨2, ![1152, 13824]⟩
abbrev S13824 : Shape := ⟨1, ![13824]⟩
abbrev S6 : Shape := ⟨1, ![6]⟩
abbrev S1x13824 : Shape := ⟨2, ![1, 13824]⟩
abbrev S6x256x6912 : Shape := ⟨3, ![6, 256, 6912]⟩
abbrev S6x54x256 : Shape := ⟨3, ![6, 54, 256]⟩
abbrev S6x1x256 : Shape := ⟨3, ![6, 1, 256]⟩
abbrev S1152x256 : Shape := ⟨2, ![1152, 256]⟩
abbrev S1x256 : Shape := ⟨2, ![1, 256]⟩
abbrev S6x256x256 : Shape := ⟨3, ![6, 256, 256]⟩
abbrev S6x256x128 : Shape := ⟨3, ![6, 256, 128]⟩
abbrev S1x32x1152 : Shape := ⟨3, ![1, 32, 1152]⟩
abbrev S32x1152 : Shape := ⟨2, ![32, 1152]⟩
abbrev S32 : Shape := ⟨1, ![32]⟩
abbrev S32x1 : Shape := ⟨2, ![32, 1]⟩
abbrev S32x128 : Shape := ⟨2, ![32, 128]⟩
abbrev S1 : Shape := ⟨1, ![1]⟩
abbrev S1x32x128 : Shape := ⟨3, ![1, 32, 128]⟩
abbrev S1x256x128 : Shape := ⟨3, ![1, 256, 128]⟩
abbrev S256x128 : Shape := ⟨2, ![256, 128]⟩
abbrev S128x256 : Shape := ⟨2, ![128, 256]⟩
abbrev S1x1x256 : Shape := ⟨3, ![1, 1, 256]⟩
abbrev S1x128x1152 : Shape := ⟨3, ![1, 128, 1152]⟩
abbrev S128x1152 : Shape := ⟨2, ![128, 1152]⟩
abbrev S1x128x128 : Shape := ⟨3, ![1, 128, 128]⟩
abbrev S128x128 : Shape := ⟨2, ![128, 128]⟩
abbrev S128x1 : Shape := ⟨2, ![128, 1]⟩
abbrev S128 : Shape := ⟨1, ![128]⟩
abbrev S1x128x256 : Shape := ⟨3, ![1, 128, 256]⟩
abbrev S54x256 : Shape := ⟨2, ![54, 256]⟩
abbrev S1x54x256 : Shape := ⟨3, ![1, 54, 256]⟩
abbrev S6x256x54 : Shape := ⟨3, ![6, 256, 54]⟩
abbrev S6x256x1 : Shape := ⟨3, ![6, 256, 1]⟩

abbrev nBuf : Space → Nat
  | .hbm => 11
  | .vmem => 16
  | .smem => 1
  | _ => 0

abbrev bufTy : (tb : Table) → Fin (tcTables nBuf tb) → BufTy
  | .hbm, ⟨0, _⟩ => ⟨S6x256x1152, .bf16⟩
  | .hbm, ⟨1, _⟩ => ⟨S1152x13824, .fp8e4m3⟩
  | .hbm, ⟨2, _⟩ => ⟨S13824, .f32⟩
  | .hbm, ⟨3, _⟩ => ⟨S6, .i32⟩
  | .hbm, ⟨4, _⟩ => ⟨S1x13824, .f32⟩
  | .hbm, ⟨5, _⟩ => ⟨S6x256x6912, .fp8e4m3⟩
  | .hbm, ⟨6, _⟩ => ⟨S6x54x256, .f32⟩
  | .hbm, ⟨7, _⟩ => ⟨S6x256x1152, .fp8e4m3⟩
  | .hbm, ⟨8, _⟩ => ⟨S6x1x256, .f32⟩
  | .hbm, ⟨9, _⟩ => ⟨S6x256x54, .f32⟩
  | .hbm, ⟨10, _⟩ => ⟨S6x256x1, .f32⟩
  | .local _ .vmem, ⟨0, _⟩ => ⟨S6x256x1152, .bf16⟩
  | .local _ .vmem, ⟨1, _⟩ => ⟨S1152x256, .fp8e4m3⟩
  | .local _ .vmem, ⟨2, _⟩ => ⟨S1152x256, .fp8e4m3⟩
  | .local _ .vmem, ⟨3, _⟩ => ⟨S1152x256, .fp8e4m3⟩
  | .local _ .vmem, ⟨4, _⟩ => ⟨S1152x256, .fp8e4m3⟩
  | .local _ .vmem, ⟨5, _⟩ => ⟨S1x256, .f32⟩
  | .local _ .vmem, ⟨6, _⟩ => ⟨S1x256, .f32⟩
  | .local _ .vmem, ⟨7, _⟩ => ⟨S1x256, .f32⟩
  | .local _ .vmem, ⟨8, _⟩ => ⟨S1x256, .f32⟩
  | .local _ .vmem, ⟨9, _⟩ => ⟨S6x256x256, .fp8e4m3⟩
  | .local _ .vmem, ⟨10, _⟩ => ⟨S6x256x256, .fp8e4m3⟩
  | .local _ .vmem, ⟨11, _⟩ => ⟨S6x54x256, .f32⟩
  | .local _ .vmem, ⟨12, _⟩ => ⟨S6x256x1152, .fp8e4m3⟩
  | .local _ .vmem, ⟨13, _⟩ => ⟨S6x1x256, .f32⟩
  | .local _ .vmem, ⟨14, _⟩ => ⟨S6x256x128, .f32⟩
  | .local _ .vmem, ⟨15, _⟩ => ⟨S6x256x128, .f32⟩
  | .local _ .smem, ⟨0, _⟩ => ⟨S6, .i32⟩
  | _, _ => ⟨S6x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .smem, ⟨0, _⟩ => true
  | _, _ => false

abbrev semScoped : Fin 0 → Bool
  | ⟨_, h⟩ => absurd h (Nat.not_lt_zero _)

abbrev dmaSemScoped : Fin 15 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | _ => false

abbrev sig : RefSig :=
  ofTc nBuf bufTy 0 15 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1_0 : Ref sig .tc := ⟨.hbm, 5, rfl⟩
abbrev main_v1_1 : Ref sig .tc := ⟨.hbm, 6, rfl⟩
abbrev main_v1_2 : Ref sig .tc := ⟨.hbm, 7, rfl⟩
abbrev main_v1_3 : Ref sig .tc := ⟨.hbm, 8, rfl⟩
abbrev main_v2 : Ref sig .tc := ⟨.hbm, 9, rfl⟩
abbrev main_v3 : Ref sig .tc := ⟨.hbm, 10, rfl⟩
abbrev cc0_stg1_0 : Ref sig .tc := ⟨.vmem, 0, rfl⟩
abbrev cc0_stg2_0 : Ref sig .tc := ⟨.vmem, 1, rfl⟩
abbrev cc0_stg2_1 : Ref sig .tc := ⟨.vmem, 2, rfl⟩
abbrev cc0_stg3_0 : Ref sig .tc := ⟨.vmem, 3, rfl⟩
abbrev cc0_stg3_1 : Ref sig .tc := ⟨.vmem, 4, rfl⟩
abbrev cc0_stg4_0 : Ref sig .tc := ⟨.vmem, 5, rfl⟩
abbrev cc0_stg4_1 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_stg7_0 : Ref sig .tc := ⟨.vmem, 11, rfl⟩
abbrev cc0_stg8_0 : Ref sig .tc := ⟨.vmem, 12, rfl⟩
abbrev cc0_stg9_0 : Ref sig .tc := ⟨.vmem, 13, rfl⟩
abbrev cc0_scratch0 : Ref sig .tc := ⟨.vmem, 14, rfl⟩
abbrev cc0_scratch1 : Ref sig .tc := ⟨.vmem, 15, rfl⟩
abbrev cc0_stg0_0 : Ref sig .tc := ⟨.smem, 0, rfl⟩
abbrev cc0_sem0_0 : DmaSem sig := 0
abbrev cc0_sem1_0 : DmaSem sig := 1
abbrev cc0_sem2_0 : DmaSem sig := 2
abbrev cc0_sem2_1 : DmaSem sig := 3
abbrev cc0_sem3_0 : DmaSem sig := 4
abbrev cc0_sem3_1 : DmaSem sig := 5
abbrev cc0_sem4_0 : DmaSem sig := 6
abbrev cc0_sem4_1 : DmaSem sig := 7
abbrev cc0_sem5_0 : DmaSem sig := 8
abbrev cc0_sem5_1 : DmaSem sig := 9
abbrev cc0_sem6_0 : DmaSem sig := 10
abbrev cc0_sem6_1 : DmaSem sig := 11
abbrev cc0_sem7_0 : DmaSem sig := 12
abbrev cc0_sem8_0 : DmaSem sig := 13
abbrev cc0_sem9_0 : DmaSem sig := 14

abbrev nD : Nat := 1
abbrev τ : Topo := Topo.v7x

variable {F : FTy → Type} [FloatOps F]

abbrev grid0 : Pipeline.Grid := ⟨1, ![27], ![false]⟩

def k0_cond1 (i : grid0.Coords) : BitVec 1 :=
  let arg0 : BitVec 32 := BitVec.ofNat 32 (i 0).val
  let c0_i32 : BitVec 32 := 0#32
  let v0 : BitVec 1 := Scalar.cmpi .eq arg0 c0_i32
  let v1 : BitVec 32 := Scalar.extui v0
  let c0_i32_0 : BitVec 32 := 0#32
  let v2 : BitVec 1 := Scalar.cmpi .ne v1 c0_i32_0
  v2

@[reducible] def k0_t1_loop : Scf.Loop 32 :=
  let c0_i32_70 : BitVec 32 := 0#32
  let c48_i32 : BitVec 32 := 48#32
  let v106 : BitVec 32 := Scalar.addi c0_i32_70 c48_i32
  let c1_i32 : BitVec 32 := 1#32
  ⟨c0_i32_70, v106, c1_i32⟩
def k0_off1 (k0_t1 : Fin k0_t1_loop.trips) : Fin 3 → Nat :=
  let c0_i32_70 : BitVec 32 := 0#32
  let c1_i32 : BitVec 32 := 1#32
  let arg13 : BitVec 32 := Scf.iv c0_i32_70 c1_i32 k0_t1
  let c0_i32_108 : BitVec 32 := 0#32
  let v150 : BitVec 1 := Scalar.cmpi .sgt arg13 c0_i32_108
  let v151 : BitVec 32 := Scalar.extui v150
  let c0_i32_109 : BitVec 32 := 0#32
  let v152 : BitVec 1 := Scalar.cmpi .slt arg13 c0_i32_109
  let v153 : BitVec 32 := Scalar.extui v152
  let v154 : BitVec 32 := Scalar.subi v151 v153
  let c8_i32 : BitVec 32 := 8#32
  let c0_i32_110 : BitVec 32 := 0#32
  let v155 : BitVec 1 := Scalar.cmpi .sgt c8_i32 c0_i32_110
  let v156 : BitVec 32 := Scalar.extui v155
  let c0_i32_111 : BitVec 32 := 0#32
  let v157 : BitVec 1 := Scalar.cmpi .slt c8_i32 c0_i32_111
  let v158 : BitVec 32 := Scalar.extui v157
  let v159 : BitVec 32 := Scalar.subi v156 v158
  let v160 : BitVec 1 := Scalar.cmpi .ne v154 v159
  let v161 : BitVec 32 := Scalar.remsi arg13 c8_i32
  let c0_i32_112 : BitVec 32 := 0#32
  let v162 : BitVec 1 := Scalar.cmpi .ne v161 c0_i32_112
  let v163 : BitVec 1 := Scalar.andi v160 v162
  let v149 : BitVec 32 := Scalar.divsi arg13 c8_i32
  let c1_i32_113 : BitVec 32 := 1#32
  let v164 : BitVec 32 := Scalar.subi v149 c1_i32_113
  let v165 : BitVec 32 := Scalar.select v163 v164 v149
  let v177 : Index := Scalar.indexCast v165
  let c8_i32_114 : BitVec 32 := 8#32
  let c0_i32_115 : BitVec 32 := 0#32
  let v166 : BitVec 1 := Scalar.cmpi .eq c8_i32_114 c0_i32_115
  let c1_i32_116 : BitVec 32 := 1#32
  let v167 : BitVec 32 := Scalar.select v166 c1_i32_116 c8_i32_114
  let v168 : BitVec 32 := Scalar.remsi arg13 v167
  let c0_i32_118 : BitVec 32 := 0#32
  let v170 : BitVec 1 := Scalar.cmpi .slt v168 c0_i32_118
  let c0_i32_119 : BitVec 32 := 0#32
  let v171 : BitVec 1 := Scalar.cmpi .slt v167 c0_i32_119
  let v172 : BitVec 1 := Scalar.xori v170 v171
  let c0_i32_117 : BitVec 32 := 0#32
  let v169 : BitVec 1 := Scalar.cmpi .ne v168 c0_i32_117
  let v173 : BitVec 1 := Scalar.andi v172 v169
  let v174 : BitVec 32 := Scalar.addi v168 v167
  let v175 : BitVec 32 := Scalar.select v173 v174 v168
  let c32_i32 : BitVec 32 := 32#32
  let v176 : BitVec 32 := Scalar.muli v175 c32_i32
  let v178 : Index := Scalar.indexCast v176
  let c0_120 : Index := 0#32
  ![v177.toNat, v178.toNat, 0]
def k0_off2 (k0_t1 : Fin k0_t1_loop.trips) : Fin 1 → Nat :=
  let c0_i32_70 : BitVec 32 := 0#32
  let c1_i32 : BitVec 32 := 1#32
  let arg13 : BitVec 32 := Scf.iv c0_i32_70 c1_i32 k0_t1
  let c0_i32_108 : BitVec 32 := 0#32
  let v150 : BitVec 1 := Scalar.cmpi .sgt arg13 c0_i32_108
  let v151 : BitVec 32 := Scalar.extui v150
  let c0_i32_109 : BitVec 32 := 0#32
  let v152 : BitVec 1 := Scalar.cmpi .slt arg13 c0_i32_109
  let v153 : BitVec 32 := Scalar.extui v152
  let v154 : BitVec 32 := Scalar.subi v151 v153
  let c8_i32 : BitVec 32 := 8#32
  let c0_i32_110 : BitVec 32 := 0#32
  let v155 : BitVec 1 := Scalar.cmpi .sgt c8_i32 c0_i32_110
  let v156 : BitVec 32 := Scalar.extui v155
  let c0_i32_111 : BitVec 32 := 0#32
  let v157 : BitVec 1 := Scalar.cmpi .slt c8_i32 c0_i32_111
  let v158 : BitVec 32 := Scalar.extui v157
  let v159 : BitVec 32 := Scalar.subi v156 v158
  let v160 : BitVec 1 := Scalar.cmpi .ne v154 v159
  let v161 : BitVec 32 := Scalar.remsi arg13 c8_i32
  let c0_i32_112 : BitVec 32 := 0#32
  let v162 : BitVec 1 := Scalar.cmpi .ne v161 c0_i32_112
  let v163 : BitVec 1 := Scalar.andi v160 v162
  let v149 : BitVec 32 := Scalar.divsi arg13 c8_i32
  let c1_i32_113 : BitVec 32 := 1#32
  let v164 : BitVec 32 := Scalar.subi v149 c1_i32_113
  let v165 : BitVec 32 := Scalar.select v163 v164 v149
  let v249 : Index := Scalar.indexCast v165
  ![v249.toNat]
def k0_off3 (k0_t1 : Fin k0_t1_loop.trips) : Fin 3 → Nat :=
  let c0_i32_70 : BitVec 32 := 0#32
  let c1_i32 : BitVec 32 := 1#32
  let arg13 : BitVec 32 := Scf.iv c0_i32_70 c1_i32 k0_t1
  let c0_i32_108 : BitVec 32 := 0#32
  let v150 : BitVec 1 := Scalar.cmpi .sgt arg13 c0_i32_108
  let v151 : BitVec 32 := Scalar.extui v150
  let c0_i32_109 : BitVec 32 := 0#32
  let v152 : BitVec 1 := Scalar.cmpi .slt arg13 c0_i32_109
  let v153 : BitVec 32 := Scalar.extui v152
  let v154 : BitVec 32 := Scalar.subi v151 v153
  let c8_i32 : BitVec 32 := 8#32
  let c0_i32_110 : BitVec 32 := 0#32
  let v155 : BitVec 1 := Scalar.cmpi .sgt c8_i32 c0_i32_110
  let v156 : BitVec 32 := Scalar.extui v155
  let c0_i32_111 : BitVec 32 := 0#32
  let v157 : BitVec 1 := Scalar.cmpi .slt c8_i32 c0_i32_111
  let v158 : BitVec 32 := Scalar.extui v157
  let v159 : BitVec 32 := Scalar.subi v156 v158
  let v160 : BitVec 1 := Scalar.cmpi .ne v154 v159
  let v161 : BitVec 32 := Scalar.remsi arg13 c8_i32
  let c0_i32_112 : BitVec 32 := 0#32
  let v162 : BitVec 1 := Scalar.cmpi .ne v161 c0_i32_112
  let v163 : BitVec 1 := Scalar.andi v160 v162
  let v149 : BitVec 32 := Scalar.divsi arg13 c8_i32
  let c1_i32_113 : BitVec 32 := 1#32
  let v164 : BitVec 32 := Scalar.subi v149 c1_i32_113
  let v165 : BitVec 32 := Scalar.select v163 v164 v149
  let v276 : Index := Scalar.indexCast v165
  let c8_i32_114 : BitVec 32 := 8#32
  let c0_i32_115 : BitVec 32 := 0#32
  let v166 : BitVec 1 := Scalar.cmpi .eq c8_i32_114 c0_i32_115
  let c1_i32_116 : BitVec 32 := 1#32
  let v167 : BitVec 32 := Scalar.select v166 c1_i32_116 c8_i32_114
  let v168 : BitVec 32 := Scalar.remsi arg13 v167
  let c0_i32_118 : BitVec 32 := 0#32
  let v170 : BitVec 1 := Scalar.cmpi .slt v168 c0_i32_118
  let c0_i32_119 : BitVec 32 := 0#32
  let v171 : BitVec 1 := Scalar.cmpi .slt v167 c0_i32_119
  let v172 : BitVec 1 := Scalar.xori v170 v171
  let c0_i32_117 : BitVec 32 := 0#32
  let v169 : BitVec 1 := Scalar.cmpi .ne v168 c0_i32_117
  let v173 : BitVec 1 := Scalar.andi v172 v169
  let v174 : BitVec 32 := Scalar.addi v168 v167
  let v175 : BitVec 32 := Scalar.select v173 v174 v168
  let c32_i32 : BitVec 32 := 32#32
  let v176 : BitVec 32 := Scalar.muli v175 c32_i32
  let v277 : Index := Scalar.indexCast v176
  let c0_134 : Index := 0#32
  ![v276.toNat, v277.toNat, 0]
def k0_cond26 (i : grid0.Coords) : BitVec 1 :=
  let arg0 : BitVec 32 := BitVec.ofNat 32 (i 0).val
  let c26_i32 : BitVec 32 := 26#32
  let v99 : BitVec 1 := Scalar.cmpi .eq arg0 c26_i32
  let v100 : BitVec 32 := Scalar.extui v99
  let c0_i32_66 : BitVec 32 := 0#32
  let v101 : BitVec 1 := Scalar.cmpi .ne v100 c0_i32_66
  v101

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c27_i32 : BitVec 32 := 27#32
  let v0 : BitVec 32 := Scalar.addi arg0 c27_i32
  let c0_i32 : BitVec 32 := 0#32
  let c0_i32_0 : BitVec 32 := 0#32
  ![c0_i32.toNat, v0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_5 (i : grid0.Coords) : Fin 2 → Nat :=
  let arg0 : BitVec 32 := BitVec.ofNat 32 (i 0).val
  let c27_i32 : BitVec 32 := 27#32
  let v0 : BitVec 32 := Scalar.addi arg0 c27_i32
  let c0_i32 : BitVec 32 := 0#32
  let c0_i32_0 : BitVec 32 := 0#32
  ![c0_i32.toNat, v0.toNat]

def cc0_transform_6 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat, arg0.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_8 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 1 → Memref sig .tc .smem S6 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 1 → Memref sig .tc .vmem S6x256x1152 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1152x256 .fp8e4m3 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1152x256 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x256 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S1x256 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S6x256x256 .fp8e4m3 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 1 → Memref sig .tc .vmem S6x54x256 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S6x256x1152 .fp8e4m3 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S6x1x256 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]
-- ==== ReferenceIdeal.lean ====
abbrev S6x256x1152 : Shape := ⟨3, ![6, 256, 1152]⟩
abbrev S1152x13824 : Shape := ⟨2, ![1152, 13824]⟩
abbrev S13824 : Shape := ⟨1, ![13824]⟩
abbrev S6 : Shape := ⟨1, ![6]⟩
abbrev S1x13824 : Shape := ⟨2, ![1, 13824]⟩
abbrev S6x1 : Shape := ⟨2, ![6, 1]⟩
abbrev S6x128 : Shape := ⟨2, ![6, 128]⟩
abbrev S6x256x6912 : Shape := ⟨3, ![6, 256, 6912]⟩
abbrev S6x256x54 : Shape := ⟨3, ![6, 256, 54]⟩
abbrev S6x256x1 : Shape := ⟨3, ![6, 256, 1]⟩
abbrev S6x1x1 : Shape := ⟨3, ![6, 1, 1]⟩
abbrev S6x256 : Shape := ⟨2, ![6, 256]⟩
abbrev S1536x1152 : Shape := ⟨2, ![1536, 1152]⟩
abbrev S1536x13824 : Shape := ⟨2, ![1536, 13824]⟩
abbrev S6x256x13824 : Shape := ⟨3, ![6, 256, 13824]⟩
abbrev S1x1x13824 : Shape := ⟨3, ![1, 1, 13824]⟩
abbrev S6x256x54x128 : Shape := ⟨4, ![6, 256, 54, 128]⟩
abbrev S6x256x1x1 : Shape := ⟨4, ![6, 256, 1, 1]⟩
abbrev S6x256x54x1 : Shape := ⟨4, ![6, 256, 54, 1]⟩

abbrev nBuf : Space → Nat
  | .hbm => 11
  | .vmem => 8
  | .smem => 0
  | _ => 0

abbrev bufTy : (tb : Table) → Fin (tcTables nBuf tb) → BufTy
  | .hbm, ⟨0, _⟩ => ⟨S6x256x1152, .bf16⟩
  | .hbm, ⟨1, _⟩ => ⟨S1152x13824, .fp8e4m3⟩
  | .hbm, ⟨2, _⟩ => ⟨S13824, .f32⟩
  | .hbm, ⟨3, _⟩ => ⟨S6, .i32⟩
  | .hbm, ⟨4, _⟩ => ⟨S1x13824, .f32⟩
  | .hbm, ⟨5, _⟩ => ⟨S6x1, .i32⟩
  | .hbm, ⟨6, _⟩ => ⟨S6x128, .i32⟩
  | .hbm, ⟨7, _⟩ => ⟨S6x256x6912, .fp8e4m3⟩
  | .hbm, ⟨8, _⟩ => ⟨S6x256x54, .f32⟩
  | .hbm, ⟨9, _⟩ => ⟨S6x256x1152, .fp8e4m3⟩
  | .hbm, ⟨10, _⟩ => ⟨S6x256x1, .f32⟩
  | .local _ .vmem, ⟨0, _⟩ => ⟨S6x256x1152, .bf16⟩
  | .local _ .vmem, ⟨1, _⟩ => ⟨S1152x13824, .fp8e4m3⟩
  | .local _ .vmem, ⟨2, _⟩ => ⟨S1x13824, .f32⟩
  | .local _ .vmem, ⟨3, _⟩ => ⟨S6x128, .i32⟩
  | .local _ .vmem, ⟨4, _⟩ => ⟨S6x256x6912, .fp8e4m3⟩
  | .local _ .vmem, ⟨5, _⟩ => ⟨S6x256x54, .f32⟩
  | .local _ .vmem, ⟨6, _⟩ => ⟨S6x256x1152, .fp8e4m3⟩
  | .local _ .vmem, ⟨7, _⟩ => ⟨S6x256x1, .f32⟩
  | _, _ => ⟨S6x256x1152, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | _, _ => false

abbrev semScoped : Fin 0 → Bool
  | ⟨_, h⟩ => absurd h (Nat.not_lt_zero _)

abbrev dmaSemScoped : Fin 8 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | _ => false

abbrev sig : RefSig :=
  ofTc nBuf bufTy 0 8 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3_0 : Ref sig .tc := ⟨.hbm, 7, rfl⟩
abbrev main_v3_1 : Ref sig .tc := ⟨.hbm, 8, rfl⟩
abbrev main_v3_2 : Ref sig .tc := ⟨.hbm, 9, rfl⟩
abbrev main_v3_3 : Ref sig .tc := ⟨.hbm, 10, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7

abbrev nD : Nat := 1
abbrev τ : Topo := Topo.v7x

variable {F : FTy → Type} [FloatOps F]

abbrev grid0 : Pipeline.Grid := .none

abbrev stage0_0 : Fin 1 → Memref sig .tc .vmem S6x256x1152 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S1152x13824 .fp8e4m3 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S1x13824 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S6x128 .i32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S6x256x6912 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S6x256x54 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S6x256x1152 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S6x256x1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
-- ==== Proof.Block.lean ====
module

public import proofs.«01_k».proof.Proof.Gen.KernelIdeal.Skeleton
public import proofs.«01_k».proof.Proof.Gen.KernelIdeal.Frame
public import Idealize.ShloMosaic.Lib.Exec
public import Idealize.ShloMosaic.Lib.Tactic

/-! # One 128-row block of the kernel as a program

The kernel's body visits twelve blocks of 128 rows (six batches, two halves). They are printed one after the other
and differ in their offsets only. Here is that block once, at a batch `b` and a first row `r`. -/

@[expose] public section

set_option maxRecDepth 8192
set_option maxHeartbeats 4000000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- The rectangles of the block at batch `b` and row `r` lie inside their buffers, at whole words. -/
structure Ev (b r : ℕ) : Prop where
  x : ∀ a, (![b, r, 0] : Fin 3 → ℕ) a + S1x128x1152.size a ≤ S6x256x1152.size a
  s : ∀ a, (![b, r, 0] : Fin 3 → ℕ) a + S1x128x128.size a ≤ S6x256x128.size a
  l : ∀ a, (![b] : Fin 1 → ℕ) a + S1.size a ≤ S6.size a
  h0 : ∀ a, (![b, r, 0] : Fin 3 → ℕ) a + S1x128x128.size a ≤ S6x256x256.size a
  h1 : ∀ a, (![b, r, 128] : Fin 3 → ℕ) a + S1x128x128.size a ≤ S6x256x256.size a
  hz : ∀ a, (![b, r, 0] : Fin 3 → ℕ) a + S1x128x256.size a ≤ S6x256x256.size a
  p0 : (Rect.unit (s := S6x256x256) ![b, r, 0] S1x128x128.size h0).PackedRows (EltTy.packing .fp8e4m3)
  p1 : (Rect.unit (s := S6x256x256) ![b, r, 128] S1x128x128.size h1).PackedRows (EltTy.packing .fp8e4m3)
  pz : (Rect.unit (s := S6x256x256) ![b, r, 0] S1x128x256.size hz).PackedRows (EltTy.packing .fp8e4m3)

/-- The rows `r + s` of the block that lie below the batch's length. -/
def rowMask (r : ℕ) (v114 : BitVec 32) : IVec S128x128 1 :=
  cmpi .slt (addi (broadcast S128x128 (BitVec.ofNat 32 r)) (iota .tc S128x128 32 [0] iota_S128x128_d0_w32))
    (broadcast S128x128 v114)

section values
variable (x : Vec F S1x128x1152 .fp8e4m3) (w1 w2 : Vec F S1152x256 .fp8e4m3) (xs : Vec F S1x128x128 .f32)
  (s1 s2 : Vec F S1x256 .f32) (m : IVec S128x128 1)

/-- The block's gated product: both matrix products scaled, the gate through the activation. -/
def hVal : FVec F S128x256 .f32 :=
  k0_pay27 (k0_pay23 x w1 xs s1) (k0_pay24 x w2 xs s2) (k0_pay25 x w1 xs s1) (k0_pay26 (F := F))
def lo : FVec F S128x128 .f32 :=
  k0_pay28 (k0_pay23 x w1 xs s1) (k0_pay24 x w2 xs s2) (k0_pay25 x w1 xs s1) (k0_pay26 (F := F))
def loA : FVec F S128x128 .f32 :=
  k0_pay29 (k0_pay23 x w1 xs s1) (k0_pay24 x w2 xs s2) (k0_pay25 x w1 xs s1) (k0_pay26 (F := F))
def loQ : IVec S128x128 32 :=
  k0_pay30 (k0_pay23 x w1 xs s1) (k0_pay24 x w2 xs s2) (k0_pay25 x w1 xs s1) (k0_pay26 (F := F))
def loC : IVec S128x128 32 :=
  k0_pay31 (k0_pay23 x w1 xs s1) (k0_pay24 x w2 xs s2) (k0_pay25 x w1 xs s1) (k0_pay26 (F := F))
/-- The codes of the block's first 128 columns. -/
def code0 : FVec F S1x128x128 .fp8e4m3 :=
  k0_pay33 m (lo x w1 w2 xs s1 s2) (loA x w1 w2 xs s1 s2) (loQ x w1 w2 xs s1 s2) (loC x w1 w2 xs s1 s2)
/-- The scales of the block's first 128 columns. -/
def sc0 : FVec F S128x128 .f32 :=
  k0_pay34 m (loA x w1 w2 xs s1 s2) (loQ x w1 w2 xs s1 s2) (loC x w1 w2 xs s1 s2)
def hi : FVec F S128x128 .f32 := k0_pay37 (hVal x w1 w2 xs s1 s2)
def hiA : FVec F S128x128 .f32 := k0_pay38 (hVal x w1 w2 xs s1 s2)
def hiQ : IVec S128x128 32 := k0_pay39 (hVal x w1 w2 xs s1 s2)
/-- The codes of the block's last 128 columns. -/
def code1 : FVec F S1x128x128 .fp8e4m3 :=
  k0_pay42 m (hi x w1 w2 xs s1 s2) (hiA x w1 w2 xs s1 s2) (hiQ x w1 w2 xs s1 s2) k0_pay40
/-- The scales of the block's last 128 columns. -/
def sc1 : FVec F S128x128 .f32 :=
  k0_pay43 m (hiA x w1 w2 xs s1 s2) (hiQ x w1 w2 xs s1 s2) k0_pay40
/-- The block's scale lanes with the first scale put into lane `2 · arg0`. -/
def lane0 (arg0 : BitVec 32) (old : Vec F S1x128x128 .f32) : FVec F S1x128x128 .f32 :=
  k0_pay36 (sc0 x w1 w2 xs s1 s2 m) (iota .tc S128x128 32 [1] iota_S128x128_d1_w32) (k0_pay35 old)
    (Scalar.addi (Scalar.muli arg0 2#32) 0#32)
/-- The block's scale lanes with the second scale put into lane `2 · arg0 + 1`. -/
def lane1 (arg0 : BitVec 32) (old : Vec F S1x128x128 .f32) : FVec F S1x128x128 .f32 :=
  k0_pay2 arg0 (sc1 x w1 w2 xs s1 s2 m) (iota .tc S128x128 32 [1] iota_S128x128_d1_w32) old
end values

section program
noncomputable def gLoad (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) :
    Prog (TpuEff nD τ sig (Elt F) Λ₀ .tc) (Σ' (v116 : IVec S128x128 1) (v122 : FVec F S128x256 .f32) (v128 : FVec F S128x256 .f32) (v138 : FVec F S128x256 .f32), FVec F S128x256 .f32) := do
  let v102 : Vec F S1x128x1152 .fp8e4m3 ← Prog.lift (.load arg9 (Rect.unit (s := S6x256x1152) ![b, r, 0] S1x128x1152.size ev.x).toLoadRect (View.loadsAt_vmem h_S1x128x1152))
  let v104 : Vec F S1152x256 .fp8e4m3 ← Prog.lift (.load arg3 (Rect.unit (s := S1152x256) ![0, 0] S1152x256.size inb_S1152x256_S1152x256_0_0).toLoadRect (View.loadsAt_vmem h_S1152x256))
  let v106 : Vec F S1152x256 .fp8e4m3 ← Prog.lift (.load arg4 (Rect.unit (s := S1152x256) ![0, 0] S1152x256.size inb_S1152x256_S1152x256_0_0).toLoadRect (View.loadsAt_vmem h_S1152x256))
  let v108 : Vec F S1x128x128 .f32 ← Prog.lift (.load arg11 (Rect.unit (s := S6x256x128) ![b, r, 0] S1x128x128.size ev.s).toLoadRect (View.loadsAt_vmem h_S1x128x128))
  let v114 : Elt F .i32 ← smemLoad arg1 (Rect.unit (s := S6) ![b] S1.size ev.l) numel1_S1 rfl
  let v119 : Vec F S1x256 .f32 ← Prog.lift (.load arg5 (Rect.unit (s := S1x256) ![0, 0] S1x256.size inb_S1x256_S1x256_0_0).toLoadRect (View.loadsAt_vmem h_S1x256))
  let v125 : Vec F S1x256 .f32 ← Prog.lift (.load arg6 (Rect.unit (s := S1x256) ![0, 0] S1x256.size inb_S1x256_S1x256_0_0).toLoadRect (View.loadsAt_vmem h_S1x256))
  pure ⟨rowMask r v114, k0_pay23 v102 v104 v108 v119, k0_pay24 v102 v106 v108 v125, k0_pay25 v102 v104 v108 v119, k0_pay26 (F := F)⟩

noncomputable def gMath (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (v122 : FVec F S128x256 .f32) (v128 : FVec F S128x256 .f32) (v138 : FVec F S128x256 .f32) (v139 : FVec F S128x256 .f32) :
    Prog (TpuEff nD τ sig (Elt F) Λ₀ .tc) (Σ' (v142 : FVec F S128x256 .f32) (v143 : FVec F S128x128 .f32) (v150 : FVec F S128x128 .f32) (v186 : IVec S128x128 32), IVec S128x128 32) := do
  pure ⟨k0_pay27 v122 v128 v138 v139, k0_pay28 v122 v128 v138 v139, k0_pay29 v122 v128 v138 v139, k0_pay30 v122 v128 v138 v139, k0_pay31 v122 v128 v138 v139⟩

noncomputable def gFirst (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (v116 : IVec S128x128 1) (v143 : FVec F S128x128 .f32) (v150 : FVec F S128x128 .f32) (v186 : IVec S128x128 32) (v188 : IVec S128x128 32) :
    Prog (TpuEff nD τ sig (Elt F) Λ₀ .tc) (Σ' (v223 : FVec F S128x128 .f32) (v224 : IVec S128x128 32) (v226 : FVec F S128x128 .f32), BitVec 32) := do
  let v219 : Vec F S1x128x128 .fp8e4m3 ← Prog.lift (.load arg7 (Rect.unit (s := S6x256x256) ![b, r, 0] S1x128x128.size ev.h0).toLoadRect (View.loadsAt_vmem h_S1x128x128))
  Prog.lift (.store arg7 (Rect.unit (s := S6x256x256) ![b, r, 0] S1x128x128.size ev.h0) (k0_pay33 v116 v143 v150 v186 v188) Finset.univ (View.stores_vmem h_S1x128x128 (harg7.storeExact_slice rfl _ ev.p0) (fun _ => rfl)) (.inl rfl))
  have v224 : IVec S128x128 32 := iota .tc S128x128 32 [1] iota_S128x128_d1_w32
  let v225 : Vec F S1x128x128 .f32 ← Prog.lift (.load arg12 (Rect.unit (s := S6x256x128) ![b, r, 0] S1x128x128.size ev.s).toLoadRect (View.loadsAt_vmem h_S1x128x128))
  let v227 : BitVec 32 := Scalar.muli arg0 2#32
  let v228 : BitVec 32 := Scalar.addi v227 0#32
  pure ⟨k0_pay34 v116 v150 v186 v188, v224, k0_pay35 v225, v228⟩

noncomputable def gMid (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (v142 : FVec F S128x256 .f32) (v223 : FVec F S128x128 .f32) (v224 : IVec S128x128 32) (v226 : FVec F S128x128 .f32) (v228 : BitVec 32) :
    Prog (TpuEff nD τ sig (Elt F) Λ₀ .tc) (Σ' (v235 : FVec F S128x128 .f32) (v242 : FVec F S128x128 .f32) (v273 : IVec S128x128 32), IVec S128x128 32) := do
  let v232 : Vec F S1x128x128 .f32 ← Prog.lift (.load arg12 (Rect.unit (s := S6x256x128) ![b, r, 0] S1x128x128.size ev.s).toLoadRect (View.loadsAt_vmem h_S1x128x128))
  Prog.lift (.store arg12 (Rect.unit (s := S6x256x128) ![b, r, 0] S1x128x128.size ev.s) (k0_pay36 v223 v224 v226 v228) Finset.univ (View.stores_vmem_bits_univ h_S1x128x128 rfl) (.inl rfl))
  pure ⟨k0_pay37 v142, k0_pay38 v142, k0_pay39 v142, k0_pay40⟩

noncomputable def gSecond (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (v116 : IVec S128x128 1) (v235 : FVec F S128x128 .f32) (v242 : FVec F S128x128 .f32) (v273 : IVec S128x128 32) (v274 : IVec S128x128 32) :
    Prog (TpuEff nD τ sig (Elt F) Λ₀ .tc) (Σ' (v315 : FVec F S128x128 .f32), IVec S128x128 32) := do
  let v311 : Vec F S1x128x128 .fp8e4m3 ← Prog.lift (.load arg7 (Rect.unit (s := S6x256x256) ![b, r, 128] S1x128x128.size ev.h1).toLoadRect (View.loadsAt_vmem h_S1x128x128))
  Prog.lift (.store arg7 (Rect.unit (s := S6x256x256) ![b, r, 128] S1x128x128.size ev.h1) (k0_pay42 v116 v235 v242 v273 v274) Finset.univ (View.stores_vmem h_S1x128x128 (harg7.storeExact_slice rfl _ ev.p1) (fun _ => rfl)) (.inl rfl))
  have v316 : IVec S128x128 32 := iota .tc S128x128 32 [1] iota_S128x128_d1_w32
  pure ⟨k0_pay43 v116 v242 v273 v274, v316⟩

/-- The block's work where some of its rows are live. -/
noncomputable def gtBody (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) :
    Prog (TpuEff nD τ sig (Elt F) Λ₀ .tc) PUnit := do
  let ⟨v116, v122, v128, v138, v139⟩ : Σ' (v116 : IVec S128x128 1) (v122 : FVec F S128x256 .f32) (v128 : FVec F S128x256 .f32) (v138 : FVec F S128x256 .f32), FVec F S128x256 .f32 ← gLoad arg1 harg1 arg3 harg3 arg4 harg4 arg5 harg5 arg6 harg6 arg7 harg7 arg9 harg9 arg11 harg11 arg12 harg12 b r ev
  let ⟨v142, v143, v150, v186, v188⟩ : Σ' (v142 : FVec F S128x256 .f32) (v143 : FVec F S128x128 .f32) (v150 : FVec F S128x128 .f32) (v186 : IVec S128x128 32), IVec S128x128 32 ← gMath arg1 harg1 arg3 harg3 arg4 harg4 arg5 harg5 arg6 harg6 arg7 harg7 arg9 harg9 arg11 harg11 arg12 harg12 b r ev v122 v128 v138 v139
  let ⟨v223, v224, v226, v228⟩ : Σ' (v223 : FVec F S128x128 .f32) (v224 : IVec S128x128 32) (v226 : FVec F S128x128 .f32), BitVec 32 ← gFirst arg1 harg1 arg3 harg3 arg4 harg4 arg5 harg5 arg6 harg6 arg7 harg7 arg9 harg9 arg11 harg11 arg12 harg12 b r ev arg0 v116 v143 v150 v186 v188
  let ⟨v235, v242, v273, v274⟩ : Σ' (v235 : FVec F S128x128 .f32) (v242 : FVec F S128x128 .f32) (v273 : IVec S128x128 32), IVec S128x128 32 ← gMid arg1 harg1 arg3 harg3 arg4 harg4 arg5 harg5 arg6 harg6 arg7 harg7 arg9 harg9 arg11 harg11 arg12 harg12 b r ev v142 v223 v224 v226 v228
  let ⟨v315, v316⟩ : Σ' (v315 : FVec F S128x128 .f32), IVec S128x128 32 ← gSecond arg1 harg1 arg3 harg3 arg4 harg4 arg5 harg5 arg6 harg6 arg7 harg7 arg9 harg9 arg11 harg11 arg12 harg12 b r ev v116 v235 v242 v273 v274
  let v317 : Vec F S1x128x128 .f32 ← Prog.lift (.load arg12 (Rect.unit (s := S6x256x128) ![b, r, 0] S1x128x128.size ev.s).toLoadRect (View.loadsAt_vmem h_S1x128x128))
  let v324 : Vec F S1x128x128 .f32 ← Prog.lift (.load arg12 (Rect.unit (s := S6x256x128) ![b, r, 0] S1x128x128.size ev.s).toLoadRect (View.loadsAt_vmem h_S1x128x128))
  Prog.lift (.store arg12 (Rect.unit (s := S6x256x128) ![b, r, 0] S1x128x128.size ev.s) (k0_pay2 arg0 v315 v316 v317) Finset.univ (View.stores_vmem_bits_univ h_S1x128x128 rfl) (.inl rfl))
  pure ⟨⟩

/-- The block's work where none of its rows is live: zeros. -/
noncomputable def leBody (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) :
    Prog (TpuEff nD τ sig (Elt F) Λ₀ .tc) PUnit := do
  let v103 : Vec F S1x128x256 .fp8e4m3 ← Prog.lift (.load arg7 (Rect.unit (s := S6x256x256) ![b, r, 0] S1x128x256.size ev.hz).toLoadRect (View.loadsAt_vmem h_S1x128x256))
  Prog.lift (.store arg7 (Rect.unit (s := S6x256x256) ![b, r, 0] S1x128x256.size ev.hz) (k0_pay1 (F := F)) Finset.univ (View.stores_vmem h_S1x128x256 (harg7.storeExact_slice rfl _ ev.pz) (fun _ => rfl)) (.inl rfl))
  pure ⟨⟩

/-- The block: its work where some row is live, zeros where none is. -/
noncomputable def blk (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) :
    Prog (TpuEff nD τ sig (Elt F) Λ₀ .tc) PUnit := do
  let v3 : Elt F .i32 ← smemLoad arg1 (Rect.unit (s := S6) ![b] S1.size ev.l) numel1_S1 rfl
  (if Scalar.cmpi .ne (Scalar.extui (Scalar.cmpi .sgt v3 (BitVec.ofNat 32 r))) 0#32 = 1#1 then gtBody arg1 harg1 arg3 harg3 arg4 harg4 arg5 harg5 arg6 harg6 arg7 harg7 arg9 harg9 arg11 harg11 arg12 harg12 b r ev arg0 else pure ⟨⟩) >>= fun _ => do
    let v7 : Elt F .i32 ← smemLoad arg1 (Rect.unit (s := S6) ![b] S1.size ev.l) numel1_S1 rfl
    if Scalar.cmpi .ne (Scalar.extui (Scalar.cmpi .sle v7 (BitVec.ofNat 32 r))) 0#32 = 1#1 then leBody arg1 harg1 arg3 harg3 arg4 harg4 arg5 harg5 arg6 harg6 arg7 harg7 arg9 harg9 arg11 harg11 arg12 harg12 b r ev else pure ⟨⟩

end program

end Cert.KernelIdeal.Blk

end
-- ==== Proof.BlockRun.lean ====
module

public import proofs.«01_k».proof.Proof.Block

/-! # What one block leaves -/

@[expose] public section

set_option maxRecDepth 8192
set_option maxHeartbeats 4000000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- The buffers a block reads, at the contents held, and the two it writes, at any. -/
abbrev Res (c : Dev nD) (arg1 : Memref sig .tc .smem S6 .i32) (arg3 arg4 : Memref sig .tc .vmem S1152x256 .fp8e4m3) (arg5 arg6 : Memref sig .tc .vmem S1x256 .f32) (arg7 : Memref sig .tc .vmem S6x256x256 .fp8e4m3) (arg9 : Memref sig .tc .vmem S6x256x1152 .fp8e4m3) (arg11 arg12 : Memref sig .tc .vmem S6x256x128 .f32)
    (X1 : BufTy.Contents (Elt F) arg1.view.ty)
    (X3 : BufTy.Contents (Elt F) arg3.view.ty)
    (X4 : BufTy.Contents (Elt F) arg4.view.ty)
    (X5 : BufTy.Contents (Elt F) arg5.view.ty)
    (X6 : BufTy.Contents (Elt F) arg6.view.ty)
    (f7 : BufTy.Contents (Elt F) arg7.view.ty)
    (X9 : BufTy.Contents (Elt F) arg9.view.ty)
    (X11 : BufTy.Contents (Elt F) arg11.view.ty)
    (f12 : BufTy.Contents (Elt F) arg12.view.ty) : sProp 𝕄G :=
  iprop((arg1.view.loc (c : Thread nD τ) ↦[arg1.view.set]{fullShare} X1) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg9.view.loc (c : Thread nD τ) ↦[arg9.view.set]{fullShare} X9) ∗ (arg11.view.loc (c : Thread nD τ) ↦[arg11.view.set]{fullShare} X11) ∗ (arg7.view.loc (c : Thread nD τ) ↦[arg7.view.set]{fullShare} f7) ∗ (arg12.view.loc (c : Thread nD τ) ↦[arg12.view.set]{fullShare} f12))

/-- Some row of the 128 from `r` lies below the length. -/
def Live (len : BitVec 32) (r : ℕ) : Prop := (BitVec.ofNat 32 r).slt len = true
instance (len : BitVec 32) (r : ℕ) : Decidable (Live len r) := by unfold Live; infer_instance

theorem sgt_live (len : BitVec 32) (r : ℕ) :
    Scalar.cmpi .ne (Scalar.extui (Scalar.cmpi .sgt len (BitVec.ofNat 32 r)) : BitVec 32) 0#32 = 1#1 ↔ Live len r := by
  unfold Live Scalar.cmpi Scalar.extui
  simp only [IntOp.cmpi]
  cases (BitVec.ofNat 32 r).slt len <;> decide
theorem sle_live (len : BitVec 32) (r : ℕ) :
    Scalar.cmpi .ne (Scalar.extui (Scalar.cmpi .sle len (BitVec.ofNat 32 r)) : BitVec 32) 0#32 = 1#1 ↔ ¬ Live len r := by
  unfold Live Scalar.cmpi Scalar.extui
  simp only [IntOp.cmpi, BitVec.sle_eq_not_slt]
  cases (BitVec.ofNat 32 r).slt len <;> decide

section loads
variable (c : Dev nD)

/-- The block's loads. -/
abbrev rX (arg9 : Memref sig .tc .vmem S6x256x1152 .fp8e4m3) (X9 : BufTy.Contents (Elt F) arg9.view.ty) (b r : ℕ) (ev : Ev b r) : Vec F S1x128x1152 .fp8e4m3 :=
  View.readAt (Elt F) arg9.view (Rect.unit (s := S6x256x1152) ![b, r, 0] S1x128x1152.size ev.x).toLoadRect X9
abbrev rS (arg11 : Memref sig .tc .vmem S6x256x128 .f32) (X11 : BufTy.Contents (Elt F) arg11.view.ty) (b r : ℕ) (ev : Ev b r) : Vec F S1x128x128 .f32 :=
  View.readAt (Elt F) arg11.view (Rect.unit (s := S6x256x128) ![b, r, 0] S1x128x128.size ev.s).toLoadRect X11
abbrev rW (arg3 : Memref sig .tc .vmem S1152x256 .fp8e4m3) (X3 : BufTy.Contents (Elt F) arg3.view.ty) : Vec F S1152x256 .fp8e4m3 :=
  View.readAt (Elt F) arg3.view (Rect.unit (s := S1152x256) ![0, 0] S1152x256.size inb_S1152x256_S1152x256_0_0).toLoadRect X3
abbrev rV (arg5 : Memref sig .tc .vmem S1x256 .f32) (X5 : BufTy.Contents (Elt F) arg5.view.ty) : Vec F S1x256 .f32 :=
  View.readAt (Elt F) arg5.view (Rect.unit (s := S1x256) ![0, 0] S1x256.size inb_S1x256_S1x256_0_0).toLoadRect X5
abbrev rL (arg1 : Memref sig .tc .smem S6 .i32) (X1 : BufTy.Contents (Elt F) arg1.view.ty) (b r : ℕ) (ev : Ev b r) : BitVec 32 :=
  View.readAt (Elt F) arg1.view (Rect.unit (s := S6) ![b] S1.size ev.l).toLoadRect X1 (Shape.Idx.first (numel1_S1 ▸ Nat.one_pos))
end loads

/-- What the block leaves, live or not. -/
theorem blk_run (𝒱 : Variants) (c : Dev nD) (bd : Option 𝒱.V) (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (E : Set ℕ) X1 X3 X4 X5 X6 f7 X9 X11 f12 :
    Res (F := F) c arg1 arg3 arg4 arg5 arg6 arg7 arg9 arg11 arg12 X1 X3 X4 X5 X6 f7 X9 X11 f12 ⊢ wp frame (wpE (defs₀ (F := F)) 𝒱 (c : Thread nD τ) bd) E (blk arg1 harg1 arg3 harg3 arg4 harg4 arg5 harg5 arg6 harg6 arg7 harg7 arg9 harg9 arg11 harg11 arg12 harg12 b r ev arg0)
      (fun _ => if Live (rL arg1 X1 b r ev) r then Res (F := F) c arg1 arg3 arg4 arg5 arg6 arg7 arg9 arg11 arg12 X1 X3 X4 X5 X6 (arg7.view.writes (Elt F) f7
        [⟨Rect.unit (s := S6x256x256) ![b, r, 128] S1x128x128.size ev.h1, code1 (rX arg9 X9 b r ev) (rW arg3 X3) (rW arg4 X4) (rS arg11 X11 b r ev) (rV arg5 X5) (rV arg6 X6) (rowMask r (rL arg1 X1 b r ev))⟩,
         ⟨Rect.unit (s := S6x256x256) ![b, r, 0] S1x128x128.size ev.h0, code0 (rX arg9 X9 b r ev) (rW arg3 X3) (rW arg4 X4) (rS arg11 X11 b r ev) (rV arg5 X5) (rV arg6 X6) (rowMask r (rL arg1 X1 b r ev))⟩]) X9 X11 (arg12.view.writes (Elt F) f12
        [⟨Rect.unit (s := S6x256x128) ![b, r, 0] S1x128x128.size ev.s, lane1 (rX arg9 X9 b r ev) (rW arg3 X3) (rW arg4 X4) (rS arg11 X11 b r ev) (rV arg5 X5) (rV arg6 X6) (rowMask r (rL arg1 X1 b r ev)) arg0 (lane0 (rX arg9 X9 b r ev) (rW arg3 X3) (rW arg4 X4) (rS arg11 X11 b r ev) (rV arg5 X5) (rV arg6 X6) (rowMask r (rL arg1 X1 b r ev)) arg0 (rS arg12 f12 b r ev))⟩,
         ⟨Rect.unit (s := S6x256x128) ![b, r, 0] S1x128x128.size ev.s, lane0 (rX arg9 X9 b r ev) (rW arg3 X3) (rW arg4 X4) (rS arg11 X11 b r ev) (rV arg5 X5) (rV arg6 X6) (rowMask r (rL arg1 X1 b r ev)) arg0 (rS arg12 f12 b r ev)⟩]) else Res (F := F) c arg1 arg3 arg4 arg5 arg6 arg7 arg9 arg11 arg12 X1 X3 X4 X5 X6 (arg7.view.writes (Elt F) f7
        [⟨Rect.unit (s := S6x256x256) ![b, r, 0] S1x128x256.size ev.hz, k0_pay1 (F := F)⟩]) X9 X11 f12) := by
  unfold blk
  by_cases h : Live (rL arg1 X1 b r ev) r
  · have hg : Scalar.cmpi .ne (Scalar.extui (Scalar.cmpi .sgt (rL arg1 X1 b r ev) (BitVec.ofNat 32 r)) : BitVec 32) 0#32 = 1#1 := (sgt_live _ _).mpr h
    have hl : ¬ Scalar.cmpi .ne (Scalar.extui (Scalar.cmpi .sle (rL arg1 X1 b r ev) (BitVec.ofNat 32 r)) : BitVec 32) 0#32 = 1#1 := fun hh => (sle_live _ _).mp hh h
    simp only [if_pos h]
    iintro ⟨H1, H3, H4, H5, H6, H9, H11, H7, H12⟩
    sl_exec
    sl_step
    have e : blk_run.sl.v317 arg1 arg3 arg4 arg5 arg6 arg9 arg11 arg12 b r ev arg0 X1 X3 X4 X5 X6 X9 X11 f12
        = lane0 (rX arg9 X9 b r ev) (rW arg3 X3) (rW arg4 X4) (rS arg11 X11 b r ev) (rV arg5 X5) (rV arg6 X6) (rowMask r (rL arg1 X1 b r ev)) arg0 (rS arg12 f12 b r ev) := View.readCov_cons_toLoadRect _ _ _ _
    rw [e]
    isplitl [H1]; · iexact H1
    isplitl [H3]; · iexact H3
    isplitl [H4]; · iexact H4
    isplitl [H5]; · iexact H5
    isplitl [H6]; · iexact H6
    isplitl [H9]; · iexact H9
    isplitl [H11]; · iexact H11
    isplitl [H7]; · iexact H7
    iexact H12
  · have hg : ¬ Scalar.cmpi .ne (Scalar.extui (Scalar.cmpi .sgt (rL arg1 X1 b r ev) (BitVec.ofNat 32 r)) : BitVec 32) 0#32 = 1#1 := fun hh => h ((sgt_live _ _).mp hh)
    have hl : Scalar.cmpi .ne (Scalar.extui (Scalar.cmpi .sle (rL arg1 X1 b r ev) (BitVec.ofNat 32 r)) : BitVec 32) 0#32 = 1#1 := (sle_live _ _).mpr h
    simp only [if_neg h]
    iintro ⟨H1, H3, H4, H5, H6, H9, H11, H7, H12⟩
    sl_exec
    sl_step
    isplitl [H1]; · iexact H1
    isplitl [H3]; · iexact H3
    isplitl [H4]; · iexact H4
    isplitl [H5]; · iexact H5
    isplitl [H6]; · iexact H6
    isplitl [H9]; · iexact H9
    isplitl [H11]; · iexact H11
    isplitl [H7]; · iexact H7
    iexact H12

end Cert.KernelIdeal.Blk

end

end
-- ==== Proof.Pieces.lean ====
module

public import proofs.«01_k».proof.Proof.Block

/-! # The kernel's body as its pieces

The printed body is: what the first grid point does, the twelve blocks, what the last grid point does. -/

@[expose] public section

set_option maxRecDepth 8192
set_option maxHeartbeats 4000000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- What only the first grid point does: it quantises the rows and clears the scale lanes. -/
def firstPart (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) : Prog (TpuEff nD τ sig (Elt F) Λ₀ .tc) PUnit := do
  if k0_h1 : k0_cond1 i = 1#1 then do
    k0_part3 i arg1 harg1 arg2 harg2 arg3 harg3 arg4 harg4 arg5 harg5 arg6 harg6 arg7 harg7 arg8 harg8 arg9 harg9 arg10 harg10 arg11 harg11 arg12 harg12 k0_h1
    let v128 : Vec F S1x256x128 .f32 ← Prog.lift (.load arg11 (Rect.unit (s := S6x256x128) ![3, 0, 0] S1x256x128.size inb_S6x256x128_S1x256x128_3_0_0).toLoadRect (View.loadsAt_vmem h_S1x256x128))
    let v132 : Vec F S1x1x256 .f32 ← Prog.lift (.load arg10 (Rect.unit (s := S6x1x256) ![3, 0, 0] S1x1x256.size inb_S6x1x256_S1x1x256_3_0_0).toLoadRect (View.loadsAt_vmem h_S1x1x256))
    Prog.lift (.store arg10 (Rect.unit (s := S6x1x256) ![3, 0, 0] S1x1x256.size inb_S6x1x256_S1x1x256_3_0_0) (k0_pay312 v128) Finset.univ (View.stores_vmem_bits_univ h_S1x1x256 rfl) (.inl rfl))
    let v135 : Vec F S1x256x128 .f32 ← Prog.lift (.load arg11 (Rect.unit (s := S6x256x128) ![4, 0, 0] S1x256x128.size inb_S6x256x128_S1x256x128_4_0_0).toLoadRect (View.loadsAt_vmem h_S1x256x128))
    let v139 : Vec F S1x1x256 .f32 ← Prog.lift (.load arg10 (Rect.unit (s := S6x1x256) ![4, 0, 0] S1x1x256.size inb_S6x1x256_S1x1x256_4_0_0).toLoadRect (View.loadsAt_vmem h_S1x1x256))
    Prog.lift (.store arg10 (Rect.unit (s := S6x1x256) ![4, 0, 0] S1x1x256.size inb_S6x1x256_S1x1x256_4_0_0) (k0_pay313 v135) Finset.univ (View.stores_vmem_bits_univ h_S1x1x256 rfl) (.inl rfl))
    let v142 : Vec F S1x256x128 .f32 ← Prog.lift (.load arg11 (Rect.unit (s := S6x256x128) ![5, 0, 0] S1x256x128.size inb_S6x256x128_S1x256x128_5_0_0).toLoadRect (View.loadsAt_vmem h_S1x256x128))
    let v146 : Vec F S1x1x256 .f32 ← Prog.lift (.load arg10 (Rect.unit (s := S6x1x256) ![5, 0, 0] S1x1x256.size inb_S6x1x256_S1x1x256_5_0_0).toLoadRect (View.loadsAt_vmem h_S1x1x256))
    Prog.lift (.store arg10 (Rect.unit (s := S6x1x256) ![5, 0, 0] S1x1x256.size inb_S6x1x256_S1x1x256_5_0_0) (k0_pay314 v142) Finset.univ (View.stores_vmem_bits_univ h_S1x1x256 rfl) (.inl rfl))
    pure ⟨⟩
  else do
    pure ⟨⟩

/-- What only the last grid point does: it copies the scale lanes out, transposed. -/
def lastPart (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) : Prog (TpuEff nD τ sig (Elt F) Λ₀ .tc) PUnit := do
  if k0_h26 : k0_cond26 i = 1#1 then do
    let v130 : Vec F S1x256x128 .f32 ← k0_part64 i arg1 harg1 arg2 harg2 arg3 harg3 arg4 harg4 arg5 harg5 arg6 harg6 arg7 harg7 arg8 harg8 arg9 harg9 arg10 harg10 arg11 harg11 arg12 harg12
    let v134 : Vec F S1x54x256 .f32 ← Prog.lift (.load arg8 (Rect.unit (s := S6x54x256) ![4, 0, 0] S1x54x256.size inb_S6x54x256_S1x54x256_4_0_0).toLoadRect (View.loadsAt_vmem h_S1x54x256))
    Prog.lift (.store arg8 (Rect.unit (s := S6x54x256) ![4, 0, 0] S1x54x256.size inb_S6x54x256_S1x54x256_4_0_0) (k0_pay4 v130) Finset.univ (View.stores_vmem_bits_univ h_S1x54x256 rfl) (.inl rfl))
    let v137 : Vec F S1x256x128 .f32 ← Prog.lift (.load arg12 (Rect.unit (s := S6x256x128) ![5, 0, 0] S1x256x128.size inb_S6x256x128_S1x256x128_5_0_0).toLoadRect (View.loadsAt_vmem h_S1x256x128))
    let v141 : Vec F S1x54x256 .f32 ← Prog.lift (.load arg8 (Rect.unit (s := S6x54x256) ![5, 0, 0] S1x54x256.size inb_S6x54x256_S1x54x256_5_0_0).toLoadRect (View.loadsAt_vmem h_S1x54x256))
    Prog.lift (.store arg8 (Rect.unit (s := S6x54x256) ![5, 0, 0] S1x54x256.size inb_S6x54x256_S1x54x256_5_0_0) (k0_pay5 v137) Finset.univ (View.stores_vmem_bits_univ h_S1x54x256 rfl) (.inl rfl))
    pure ⟨⟩
  else do
    pure ⟨⟩

theorem ev (b : Fin 6) (q : Fin 2) : Ev b.val (128 * q.val) := by
  have x : ∀ (b : Fin 6) (q : Fin 2) a, (![b.val, 128 * q.val, 0] : Fin 3 → ℕ) a + S1x128x1152.size a ≤ S6x256x1152.size a := by decide
  have s : ∀ (b : Fin 6) (q : Fin 2) a, (![b.val, 128 * q.val, 0] : Fin 3 → ℕ) a + S1x128x128.size a ≤ S6x256x128.size a := by decide
  have l : ∀ (b : Fin 6) a, (![b.val] : Fin 1 → ℕ) a + S1.size a ≤ S6.size a := by decide
  have h0 : ∀ (b : Fin 6) (q : Fin 2) a, (![b.val, 128 * q.val, 0] : Fin 3 → ℕ) a + S1x128x128.size a ≤ S6x256x256.size a := by decide
  have h1 : ∀ (b : Fin 6) (q : Fin 2) a, (![b.val, 128 * q.val, 128] : Fin 3 → ℕ) a + S1x128x128.size a ≤ S6x256x256.size a := by decide
  have hz : ∀ (b : Fin 6) (q : Fin 2) a, (![b.val, 128 * q.val, 0] : Fin 3 → ℕ) a + S1x128x256.size a ≤ S6x256x256.size a := by decide
  have pk : ∀ (b : Fin 6) (q : Fin 2), S6x256x256.PackedRowsAt (EltTy.packing .fp8e4m3) ![b.val, 128 * q.val, 0] S1x128x128.size (fun _ => 1) := by decide
  have pk1 : ∀ (b : Fin 6) (q : Fin 2), S6x256x256.PackedRowsAt (EltTy.packing .fp8e4m3) ![b.val, 128 * q.val, 128] S1x128x128.size (fun _ => 1) := by decide
  have pkz : ∀ (b : Fin 6) (q : Fin 2), S6x256x256.PackedRowsAt (EltTy.packing .fp8e4m3) ![b.val, 128 * q.val, 0] S1x128x256.size (fun _ => 1) := by decide
  exact ⟨x b q, s b q, l b, h0 b q, h1 b q, hz b q, pk b q, pk1 b q, pkz b q⟩

section steps
variable {α : Type}

/-- The printed form of the block's live branch, with what follows it. -/
def gtStep (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (v6 : BitVec 1) (K : Prog (TpuEff nD τ sig (Elt F) Λ₀ .tc) α) : Prog (TpuEff nD τ sig (Elt F) Λ₀ .tc) α := do
  if v6 = 1#1 then do
    let ⟨v116, v122, v128, v138, v139⟩ : Σ' (v116 : IVec S128x128 1) (v122 : FVec F S128x256 .f32) (v128 : FVec F S128x256 .f32) (v138 : FVec F S128x256 .f32), FVec F S128x256 .f32 ← gLoad arg1 harg1 arg3 harg3 arg4 harg4 arg5 harg5 arg6 harg6 arg7 harg7 arg9 harg9 arg11 harg11 arg12 harg12 b r ev
    let ⟨v142, v143, v150, v186, v188⟩ : Σ' (v142 : FVec F S128x256 .f32) (v143 : FVec F S128x128 .f32) (v150 : FVec F S128x128 .f32) (v186 : IVec S128x128 32), IVec S128x128 32 ← gMath arg1 harg1 arg3 harg3 arg4 harg4 arg5 harg5 arg6 harg6 arg7 harg7 arg9 harg9 arg11 harg11 arg12 harg12 b r ev v122 v128 v138 v139
    let ⟨v223, v224, v226, v228⟩ : Σ' (v223 : FVec F S128x128 .f32) (v224 : IVec S128x128 32) (v226 : FVec F S128x128 .f32), BitVec 32 ← gFirst arg1 harg1 arg3 harg3 arg4 harg4 arg5 harg5 arg6 harg6 arg7 harg7 arg9 harg9 arg11 harg11 arg12 harg12 b r ev arg0 v116 v143 v150 v186 v188
    let ⟨v235, v242, v273, v274⟩ : Σ' (v235 : FVec F S128x128 .f32) (v242 : FVec F S128x128 .f32) (v273 : IVec S128x128 32), IVec S128x128 32 ← gMid arg1 harg1 arg3 harg3 arg4 harg4 arg5 harg5 arg6 harg6 arg7 harg7 arg9 harg9 arg11 harg11 arg12 harg12 b r ev v142 v223 v224 v226 v228
    let ⟨v315, v316⟩ : Σ' (v315 : FVec F S128x128 .f32), IVec S128x128 32 ← gSecond arg1 harg1 arg3 harg3 arg4 harg4 arg5 harg5 arg6 harg6 arg7 harg7 arg9 harg9 arg11 harg11 arg12 harg12 b r ev v116 v235 v242 v273 v274
    let v317 : Vec F S1x128x128 .f32 ← Prog.lift (.load arg12 (Rect.unit (s := S6x256x128) ![b, r, 0] S1x128x128.size ev.s).toLoadRect (View.loadsAt_vmem h_S1x128x128))
    let v324 : Vec F S1x128x128 .f32 ← Prog.lift (.load arg12 (Rect.unit (s := S6x256x128) ![b, r, 0] S1x128x128.size ev.s).toLoadRect (View.loadsAt_vmem h_S1x128x128))
    Prog.lift (.store arg12 (Rect.unit (s := S6x256x128) ![b, r, 0] S1x128x128.size ev.s) (k0_pay2 arg0 v315 v316 v317) Finset.univ (View.stores_vmem_bits_univ h_S1x128x128 rfl) (.inl rfl))
    pure ⟨⟩
  else do
    pure ⟨⟩
  K

/-- The printed form of the block's dead branch, with what follows it. -/
def leStep (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (v10 : BitVec 1) (K : Prog (TpuEff nD τ sig (Elt F) Λ₀ .tc) α) : Prog (TpuEff nD τ sig (Elt F) Λ₀ .tc) α := do
  if v10 = 1#1 then do
    let v103 : Vec F S1x128x256 .fp8e4m3 ← Prog.lift (.load arg7 (Rect.unit (s := S6x256x256) ![b, r, 0] S1x128x256.size ev.hz).toLoadRect (View.loadsAt_vmem h_S1x128x256))
    Prog.lift (.store arg7 (Rect.unit (s := S6x256x256) ![b, r, 0] S1x128x256.size ev.hz) (k0_pay1 (F := F)) Finset.univ (View.stores_vmem h_S1x128x256 (harg7.storeExact_slice rfl _ ev.pz) (fun _ => rfl)) (.inl rfl))
    pure ⟨⟩
  else do
    pure ⟨⟩
  K

theorem gtStep_eq (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (v6 : BitVec 1) (K : Prog (TpuEff nD τ sig (Elt F) Λ₀ .tc) α) :
    gtStep arg1 harg1 arg3 harg3 arg4 harg4 arg5 harg5 arg6 harg6 arg7 harg7 arg9 harg9 arg11 harg11 arg12 harg12 b r ev arg0 v6 K = (if v6 = 1#1 then gtBody arg1 harg1 arg3 harg3 arg4 harg4 arg5 harg5 arg6 harg6 arg7 harg7 arg9 harg9 arg11 harg11 arg12 harg12 b r ev arg0 else pure ⟨⟩) >>= fun _ => K := by
  unfold gtStep
  by_cases h : v6 = 1#1
  · simp only [if_pos h]; rfl
  · simp only [if_neg h]; rfl

theorem leStep_eq (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (v10 : BitVec 1) (K : Prog (TpuEff nD τ sig (Elt F) Λ₀ .tc) α) :
    leStep arg1 harg1 arg3 harg3 arg4 harg4 arg5 harg5 arg6 harg6 arg7 harg7 arg9 harg9 arg11 harg11 arg12 harg12 b r ev v10 K = (if v10 = 1#1 then leBody arg1 harg1 arg3 harg3 arg4 harg4 arg5 harg5 arg6 harg6 arg7 harg7 arg9 harg9 arg11 harg11 arg12 harg12 b r ev else pure ⟨⟩) >>= fun _ => K := by
  unfold leStep
  by_cases h : v10 = 1#1
  · simp only [if_pos h]; rfl
  · simp only [if_neg h]; rfl

/-- The printed form of a block, with what follows it. -/
def blkK (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (K : Prog (TpuEff nD τ sig (Elt F) Λ₀ .tc) α) : Prog (TpuEff nD τ sig (Elt F) Λ₀ .tc) α := do
  let v3 : Elt F .i32 ← smemLoad arg1 (Rect.unit (s := S6) ![b] S1.size ev.l) numel1_S1 rfl
  gtStep arg1 harg1 arg3 harg3 arg4 harg4 arg5 harg5 arg6 harg6 arg7 harg7 arg9 harg9 arg11 harg11 arg12 harg12 b r ev arg0 (Scalar.cmpi .ne (Scalar.extui (Scalar.cmpi .sgt v3 (BitVec.ofNat 32 r))) 0#32) (do
    let v7 : Elt F .i32 ← smemLoad arg1 (Rect.unit (s := S6) ![b] S1.size ev.l) numel1_S1 rfl
    leStep arg1 harg1 arg3 harg3 arg4 harg4 arg5 harg5 arg6 harg6 arg7 harg7 arg9 harg9 arg11 harg11 arg12 harg12 b r ev (Scalar.cmpi .ne (Scalar.extui (Scalar.cmpi .sle v7 (BitVec.ofNat 32 r))) 0#32) K)

theorem blkK_eq (arg1 : Memref sig .tc .smem S6 .i32) (harg1 : arg1.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg9 : Memref sig .tc .vmem S6x256x1152 .fp8e4m3) (harg9 : arg9.IsWhole) (arg11 : Memref sig .tc .vmem S6x256x128 .f32) (harg11 : arg11.IsWhole) (arg12 : Memref sig .tc .vmem S6x256x128 .f32) (harg12 : arg12.IsWhole) (b r : ℕ) (ev : Ev b r) (arg0 : BitVec 32) (K : Prog (TpuEff nD τ sig (Elt F) Λ₀ .tc) α) :
    blkK arg1 harg1 arg3 harg3 arg4 harg4 arg5 harg5 arg6 harg6 arg7 harg7 arg9 harg9 arg11 harg11 arg12 harg12 b r ev arg0 K = blk arg1 harg1 arg3 harg3 arg4 harg4 arg5 harg5 arg6 harg6 arg7 harg7 arg9 harg9 arg11 harg11 arg12 harg12 b r ev arg0 >>= fun _ => K := by
  unfold blkK blk
  simp only [gtStep_eq, leStep_eq, bind_assoc]

/-- The printed form of the first point's work, with what follows it. -/
def firstStep (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (K : Prog (TpuEff nD τ sig (Elt F) Λ₀ .tc) α) : Prog (TpuEff nD τ sig (Elt F) Λ₀ .tc) α := do
  if k0_h1 : k0_cond1 i = 1#1 then do
    k0_part3 i arg1 harg1 arg2 harg2 arg3 harg3 arg4 harg4 arg5 harg5 arg6 harg6 arg7 harg7 arg8 harg8 arg9 harg9 arg10 harg10 arg11 harg11 arg12 harg12 k0_h1
    let v128 : Vec F S1x256x128 .f32 ← Prog.lift (.load arg11 (Rect.unit (s := S6x256x128) ![3, 0, 0] S1x256x128.size inb_S6x256x128_S1x256x128_3_0_0).toLoadRect (View.loadsAt_vmem h_S1x256x128))
    let v132 : Vec F S1x1x256 .f32 ← Prog.lift (.load arg10 (Rect.unit (s := S6x1x256) ![3, 0, 0] S1x1x256.size inb_S6x1x256_S1x1x256_3_0_0).toLoadRect (View.loadsAt_vmem h_S1x1x256))
    Prog.lift (.store arg10 (Rect.unit (s := S6x1x256) ![3, 0, 0] S1x1x256.size inb_S6x1x256_S1x1x256_3_0_0) (k0_pay312 v128) Finset.univ (View.stores_vmem_bits_univ h_S1x1x256 rfl) (.inl rfl))
    let v135 : Vec F S1x256x128 .f32 ← Prog.lift (.load arg11 (Rect.unit (s := S6x256x128) ![4, 0, 0] S1x256x128.size inb_S6x256x128_S1x256x128_4_0_0).toLoadRect (View.loadsAt_vmem h_S1x256x128))
    let v139 : Vec F S1x1x256 .f32 ← Prog.lift (.load arg10 (Rect.unit (s := S6x1x256) ![4, 0, 0] S1x1x256.size inb_S6x1x256_S1x1x256_4_0_0).toLoadRect (View.loadsAt_vmem h_S1x1x256))
    Prog.lift (.store arg10 (Rect.unit (s := S6x1x256) ![4, 0, 0] S1x1x256.size inb_S6x1x256_S1x1x256_4_0_0) (k0_pay313 v135) Finset.univ (View.stores_vmem_bits_univ h_S1x1x256 rfl) (.inl rfl))
    let v142 : Vec F S1x256x128 .f32 ← Prog.lift (.load arg11 (Rect.unit (s := S6x256x128) ![5, 0, 0] S1x256x128.size inb_S6x256x128_S1x256x128_5_0_0).toLoadRect (View.loadsAt_vmem h_S1x256x128))
    let v146 : Vec F S1x1x256 .f32 ← Prog.lift (.load arg10 (Rect.unit (s := S6x1x256) ![5, 0, 0] S1x1x256.size inb_S6x1x256_S1x1x256_5_0_0).toLoadRect (View.loadsAt_vmem h_S1x1x256))
    Prog.lift (.store arg10 (Rect.unit (s := S6x1x256) ![5, 0, 0] S1x1x256.size inb_S6x1x256_S1x1x256_5_0_0) (k0_pay314 v142) Finset.univ (View.stores_vmem_bits_univ h_S1x1x256 rfl) (.inl rfl))
    pure ⟨⟩
  else do
    pure ⟨⟩
  K

/-- The printed form of the last point's work, with what follows it. -/
def lastStep (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (K : Prog (TpuEff nD τ sig (Elt F) Λ₀ .tc) α) : Prog (TpuEff nD τ sig (Elt F) Λ₀ .tc) α := do
  if k0_h26 : k0_cond26 i = 1#1 then do
    let v130 : Vec F S1x256x128 .f32 ← k0_part64 i arg1 harg1 arg2 harg2 arg3 harg3 arg4 harg4 arg5 harg5 arg6 harg6 arg7 harg7 arg8 harg8 arg9 harg9 arg10 harg10 arg11 harg11 arg12 harg12
    let v134 : Vec F S1x54x256 .f32 ← Prog.lift (.load arg8 (Rect.unit (s := S6x54x256) ![4, 0, 0] S1x54x256.size inb_S6x54x256_S1x54x256_4_0_0).toLoadRect (View.loadsAt_vmem h_S1x54x256))
    Prog.lift (.store arg8 (Rect.unit (s := S6x54x256) ![4, 0, 0] S1x54x256.size inb_S6x54x256_S1x54x256_4_0_0) (k0_pay4 v130) Finset.univ (View.stores_vmem_bits_univ h_S1x54x256 rfl) (.inl rfl))
    let v137 : Vec F S1x256x128 .f32 ← Prog.lift (.load arg12 (Rect.unit (s := S6x256x128) ![5, 0, 0] S1x256x128.size inb_S6x256x128_S1x256x128_5_0_0).toLoadRect (View.loadsAt_vmem h_S1x256x128))
    let v141 : Vec F S1x54x256 .f32 ← Prog.lift (.load arg8 (Rect.unit (s := S6x54x256) ![5, 0, 0] S1x54x256.size inb_S6x54x256_S1x54x256_5_0_0).toLoadRect (View.loadsAt_vmem h_S1x54x256))
    Prog.lift (.store arg8 (Rect.unit (s := S6x54x256) ![5, 0, 0] S1x54x256.size inb_S6x54x256_S1x54x256_5_0_0) (k0_pay5 v137) Finset.univ (View.stores_vmem_bits_univ h_S1x54x256 rfl) (.inl rfl))
    pure ⟨⟩
  else do
    pure ⟨⟩
  K

theorem firstStep_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (K : Prog (TpuEff nD τ sig (Elt F) Λ₀ .tc) α) :
    firstStep i arg1 harg1 arg2 harg2 arg3 harg3 arg4 harg4 arg5 harg5 arg6 harg6 arg7 harg7 arg8 harg8 arg9 harg9 arg10 harg10 arg11 harg11 arg12 harg12 K = firstPart i arg1 harg1 arg2 harg2 arg3 harg3 arg4 harg4 arg5 harg5 arg6 harg6 arg7 harg7 arg8 harg8 arg9 harg9 arg10 harg10 arg11 harg11 arg12 harg12 >>= fun _ => K := by
  unfold firstStep firstPart
  by_cases h : k0_cond1 i = 1#1
  · simp only [dif_pos h, bind_assoc, pure_bind]
  · simp only [dif_neg h]; rfl

theorem lastStep_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (K : Prog (TpuEff nD τ sig (Elt F) Λ₀ .tc) α) :
    lastStep i arg1 harg1 arg2 harg2 arg3 harg3 arg4 harg4 arg5 harg5 arg6 harg6 arg7 harg7 arg8 harg8 arg9 harg9 arg10 harg10 arg11 harg11 arg12 harg12 K = lastPart i arg1 harg1 arg2 harg2 arg3 harg3 arg4 harg4 arg5 harg5 arg6 harg6 arg7 harg7 arg8 harg8 arg9 harg9 arg10 harg10 arg11 harg11 arg12 harg12 >>= fun _ => K := by
  unfold lastStep lastPart
  by_cases h : k0_cond26 i = 1#1
  · simp only [dif_pos h, bind_assoc, pure_bind]
  · simp only [dif_neg h]; rfl

end steps

set_option maxRecDepth 65536 in
theorem part65_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) :
    k0_part65 (F := F) i arg1 harg1 arg2 harg2 arg3 harg3 arg4 harg4 arg5 harg5 arg6 harg6 arg7 harg7 arg8 harg8 arg9 harg9 arg10 harg10 arg11 harg11 arg12 harg12 = firstStep i arg1 harg1 arg2 harg2 arg3 harg3 arg4 harg4 arg5 harg5 arg6 harg6 arg7 harg7 arg8 harg8 arg9 harg9 arg10 harg10 arg11 harg11 arg12 harg12 (blkK arg1 harg1 arg3 harg3 arg4 harg4 arg5 harg5 arg6 harg6 arg7 harg7 arg9 harg9 arg11 harg11 arg12 harg12 0 0 (ev ⟨0, by decide⟩ ⟨0, by decide⟩) (BitVec.ofNat 32 (i 0).val) (blkK arg1 harg1 arg3 harg3 arg4 harg4 arg5 harg5 arg6 harg6 arg7 harg7 arg9 harg9 arg11 harg11 arg12 harg12 0 128 (ev ⟨0, by decide⟩ ⟨1, by decide⟩) (BitVec.ofNat 32 (i 0).val) (blkK arg1 harg1 arg3 harg3 arg4 harg4 arg5 harg5 arg6 harg6 arg7 harg7 arg9 harg9 arg11 harg11 arg12 harg12 1 0 (ev ⟨1, by decide⟩ ⟨0, by decide⟩) (BitVec.ofNat 32 (i 0).val) (do
      let v27 : Elt F .i32 ← smemLoad arg1 (Rect.unit (s := S6) ![1] S1.size (ev ⟨1, by decide⟩ ⟨1, by decide⟩).l) numel1_S1 rfl
      pure ⟨(BitVec.ofNat 32 (i 0).val), Scalar.extui (Scalar.cmpi .sgt v27 128#32)⟩)))) := rfl

set_option maxRecDepth 65536 in
theorem part66_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (arg0 v29 : BitVec 32) :
    k0_part66 (F := F) i arg1 harg1 arg2 harg2 arg3 harg3 arg4 harg4 arg5 harg5 arg6 harg6 arg7 harg7 arg8 harg8 arg9 harg9 arg10 harg10 arg11 harg11 arg12 harg12 arg0 v29 = gtStep arg1 harg1 arg3 harg3 arg4 harg4 arg5 harg5 arg6 harg6 arg7 harg7 arg9 harg9 arg11 harg11 arg12 harg12 1 128 (ev ⟨1, by decide⟩ ⟨1, by decide⟩) arg0 (Scalar.cmpi .ne v29 0#32) (do
      let v7 : Elt F .i32 ← smemLoad arg1 (Rect.unit (s := S6) ![1] S1.size (ev ⟨1, by decide⟩ ⟨1, by decide⟩).l) numel1_S1 rfl
      leStep arg1 harg1 arg3 harg3 arg4 harg4 arg5 harg5 arg6 harg6 arg7 harg7 arg9 harg9 arg11 harg11 arg12 harg12 1 128 (ev ⟨1, by decide⟩ ⟨1, by decide⟩) (Scalar.cmpi .ne (Scalar.extui (Scalar.cmpi .sle v7 128#32)) 0#32) (blkK arg1 harg1 arg3 harg3 arg4 harg4 arg5 harg5 arg6 harg6 arg7 harg7 arg9 harg9 arg11 harg11 arg12 harg12 2 0 (ev ⟨2, by decide⟩ ⟨0, by decide⟩) arg0 (blkK arg1 harg1 arg3 harg3 arg4 harg4 arg5 harg5 arg6 harg6 arg7 harg7 arg9 harg9 arg11 harg11 arg12 harg12 2 128 (ev ⟨2, by decide⟩ ⟨1, by decide⟩) arg0 (blkK arg1 harg1 arg3 harg3 arg4 harg4 arg5 harg5 arg6 harg6 arg7 harg7 arg9 harg9 arg11 harg11 arg12 harg12 3 0 (ev ⟨3, by decide⟩ ⟨0, by decide⟩) arg0 (pure ⟨⟩))))) := rfl

set_option maxRecDepth 65536 in
theorem part67_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (arg0 : BitVec 32) :
    k0_part67 (F := F) i arg1 harg1 arg2 harg2 arg3 harg3 arg4 harg4 arg5 harg5 arg6 harg6 arg7 harg7 arg8 harg8 arg9 harg9 arg10 harg10 arg11 harg11 arg12 harg12 arg0 = blkK arg1 harg1 arg3 harg3 arg4 harg4 arg5 harg5 arg6 harg6 arg7 harg7 arg9 harg9 arg11 harg11 arg12 harg12 3 128 (ev ⟨3, by decide⟩ ⟨1, by decide⟩) arg0 (blkK arg1 harg1 arg3 harg3 arg4 harg4 arg5 harg5 arg6 harg6 arg7 harg7 arg9 harg9 arg11 harg11 arg12 harg12 4 0 (ev ⟨4, by decide⟩ ⟨0, by decide⟩) arg0 (blkK arg1 harg1 arg3 harg3 arg4 harg4 arg5 harg5 arg6 harg6 arg7 harg7 arg9 harg9 arg11 harg11 arg12 harg12 4 128 (ev ⟨4, by decide⟩ ⟨1, by decide⟩) arg0 (do
      let v27 : Elt F .i32 ← smemLoad arg1 (Rect.unit (s := S6) ![5] S1.size (ev ⟨5, by decide⟩ ⟨0, by decide⟩).l) numel1_S1 rfl
      gtStep arg1 harg1 arg3 harg3 arg4 harg4 arg5 harg5 arg6 harg6 arg7 harg7 arg9 harg9 arg11 harg11 arg12 harg12 5 0 (ev ⟨5, by decide⟩ ⟨0, by decide⟩) arg0 (Scalar.cmpi .ne (Scalar.extui (Scalar.cmpi .sgt v27 0#32)) 0#32) (do
        let v88 : Elt F .i32 ← smemLoad arg1 (Rect.unit (s := S6) ![5] S1.size (ev ⟨5, by decide⟩ ⟨0, by decide⟩).l) numel1_S1 rfl
        pure (Scalar.extui (Scalar.cmpi .sle v88 0#32)))))) := rfl

set_option maxRecDepth 65536 in
theorem root_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) :
    cc0_geglu_gate_up (F := F) i arg1 harg1 arg2 harg2 arg3 harg3 arg4 harg4 arg5 harg5 arg6 harg6 arg7 harg7 arg8 harg8 arg9 harg9 arg10 harg10 arg11 harg11 arg12 harg12 = (do
      let ⟨arg0, v29⟩ : Σ' (arg0 : BitVec 32), BitVec 32 ← k0_part65 i arg1 harg1 arg2 harg2 arg3 harg3 arg4 harg4 arg5 harg5 arg6 harg6 arg7 harg7 arg8 harg8 arg9 harg9 arg10 harg10 arg11 harg11 arg12 harg12
      k0_part66 i arg1 harg1 arg2 harg2 arg3 harg3 arg4 harg4 arg5 harg5 arg6 harg6 arg7 harg7 arg8 harg8 arg9 harg9 arg10 harg10 arg11 harg11 arg12 harg12 arg0 v29
      let v89 : BitVec 32 ← k0_part67 i arg1 harg1 arg2 harg2 arg3 harg3 arg4 harg4 arg5 harg5 arg6 harg6 arg7 harg7 arg8 harg8 arg9 harg9 arg10 harg10 arg11 harg11 arg12 harg12 arg0
      leStep arg1 harg1 arg3 harg3 arg4 harg4 arg5 harg5 arg6 harg6 arg7 harg7 arg9 harg9 arg11 harg11 arg12 harg12 5 0 (ev ⟨5, by decide⟩ ⟨0, by decide⟩) (Scalar.cmpi .ne v89 0#32) (blkK arg1 harg1 arg3 harg3 arg4 harg4 arg5 harg5 arg6 harg6 arg7 harg7 arg9 harg9 arg11 harg11 arg12 harg12 5 128 (ev ⟨5, by decide⟩ ⟨1, by decide⟩) arg0 (lastStep i arg1 harg1 arg2 harg2 arg3 harg3 arg4 harg4 arg5 harg5 arg6 harg6 arg7 harg7 arg8 harg8 arg9 harg9 arg10 harg10 arg11 harg11 arg12 harg12 (pure ⟨⟩)))) := rfl

/-- The body as its pieces. -/
def pieces (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) : Prog (TpuEff nD τ sig (Elt F) Λ₀ .tc) PUnit := do
  firstPart i arg1 harg1 arg2 harg2 arg3 harg3 arg4 harg4 arg5 harg5 arg6 harg6 arg7 harg7 arg8 harg8 arg9 harg9 arg10 harg10 arg11 harg11 arg12 harg12
  blk arg1 harg1 arg3 harg3 arg4 harg4 arg5 harg5 arg6 harg6 arg7 harg7 arg9 harg9 arg11 harg11 arg12 harg12 0 0 (ev ⟨0, by decide⟩ ⟨0, by decide⟩) (BitVec.ofNat 32 (i 0).val)
  blk arg1 harg1 arg3 harg3 arg4 harg4 arg5 harg5 arg6 harg6 arg7 harg7 arg9 harg9 arg11 harg11 arg12 harg12 0 128 (ev ⟨0, by decide⟩ ⟨1, by decide⟩) (BitVec.ofNat 32 (i 0).val)
  blk arg1 harg1 arg3 harg3 arg4 harg4 arg5 harg5 arg6 harg6 arg7 harg7 arg9 harg9 arg11 harg11 arg12 harg12 1 0 (ev ⟨1, by decide⟩ ⟨0, by decide⟩) (BitVec.ofNat 32 (i 0).val)
  blk arg1 harg1 arg3 harg3 arg4 harg4 arg5 harg5 arg6 harg6 arg7 harg7 arg9 harg9 arg11 harg11 arg12 harg12 1 128 (ev ⟨1, by decide⟩ ⟨1, by decide⟩) (BitVec.ofNat 32 (i 0).val)
  blk arg1 harg1 arg3 harg3 arg4 harg4 arg5 harg5 arg6 harg6 arg7 harg7 arg9 harg9 arg11 harg11 arg12 harg12 2 0 (ev ⟨2, by decide⟩ ⟨0, by decide⟩) (BitVec.ofNat 32 (i 0).val)
  blk arg1 harg1 arg3 harg3 arg4 harg4 arg5 harg5 arg6 harg6 arg7 harg7 arg9 harg9 arg11 harg11 arg12 harg12 2 128 (ev ⟨2, by decide⟩ ⟨1, by decide⟩) (BitVec.ofNat 32 (i 0).val)
  blk arg1 harg1 arg3 harg3 arg4 harg4 arg5 harg5 arg6 harg6 arg7 harg7 arg9 harg9 arg11 harg11 arg12 harg12 3 0 (ev ⟨3, by decide⟩ ⟨0, by decide⟩) (BitVec.ofNat 32 (i 0).val)
  blk arg1 harg1 arg3 harg3 arg4 harg4 arg5 harg5 arg6 harg6 arg7 harg7 arg9 harg9 arg11 harg11 arg12 harg12 3 128 (ev ⟨3, by decide⟩ ⟨1, by decide⟩) (BitVec.ofNat 32 (i 0).val)
  blk arg1 harg1 arg3 harg3 arg4 harg4 arg5 harg5 arg6 harg6 arg7 harg7 arg9 harg9 arg11 harg11 arg12 harg12 4 0 (ev ⟨4, by decide⟩ ⟨0, by decide⟩) (BitVec.ofNat 32 (i 0).val)
  blk arg1 harg1 arg3 harg3 arg4 harg4 arg5 harg5 arg6 harg6 arg7 harg7 arg9 harg9 arg11 harg11 arg12 harg12 4 128 (ev ⟨4, by decide⟩ ⟨1, by decide⟩) (BitVec.ofNat 32 (i 0).val)
  blk arg1 harg1 arg3 harg3 arg4 harg4 arg5 harg5 arg6 harg6 arg7 harg7 arg9 harg9 arg11 harg11 arg12 harg12 5 0 (ev ⟨5, by decide⟩ ⟨0, by decide⟩) (BitVec.ofNat 32 (i 0).val)
  blk arg1 harg1 arg3 harg3 arg4 harg4 arg5 harg5 arg6 harg6 arg7 harg7 arg9 harg9 arg11 harg11 arg12 harg12 5 128 (ev ⟨5, by decide⟩ ⟨1, by decide⟩) (BitVec.ofNat 32 (i 0).val)
  lastPart i arg1 harg1 arg2 harg2 arg3 harg3 arg4 harg4 arg5 harg5 arg6 harg6 arg7 harg7 arg8 harg8 arg9 harg9 arg10 harg10 arg11 harg11 arg12 harg12
  pure ⟨⟩

theorem body_eq (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) :
    cc0_geglu_gate_up (F := F) i arg1 harg1 arg2 harg2 arg3 harg3 arg4 harg4 arg5 harg5 arg6 harg6 arg7 harg7 arg8 harg8 arg9 harg9 arg10 harg10 arg11 harg11 arg12 harg12 = pieces i arg1 harg1 arg2 harg2 arg3 harg3 arg4 harg4 arg5 harg5 arg6 harg6 arg7 harg7 arg8 harg8 arg9 harg9 arg10 harg10 arg11 harg11 arg12 harg12 := by
  rw [root_eq]
  simp only [part65_eq, part66_eq, part67_eq, firstStep_eq, lastStep_eq, blkK_eq, gtStep_eq, leStep_eq, pieces, bind_assoc, pure_bind]
  simp only [blk, bind_assoc, pure_bind]

end Cert.KernelIdeal.Blk

end

end
-- ==== Proof.Values.lean ====
module

public import proofs.«01_k».proof.Proof.BlockRun
public import proofs.«01_k».proof.Proof.Pieces
public import Idealize.ShloMosaic.Lib.WritesUnit
public import Idealize.ShloMosaic.Lib.VecWindow
public import Idealize.ShloMosaic.Lib.Pointwise

/-! # What the twelve blocks leave, entry by entry -/

@[expose] public section

set_option maxRecDepth 8192
set_option maxHeartbeats 400000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

/-- What the blocks of one grid point read: the lengths, the two weight tiles and their scales, the rows' codes and
    scales. -/
structure In (F : FTy → Type) [FloatOps F] where
  len : Vec F S6 .i32
  w1 : Vec F S1152x256 .fp8e4m3
  w2 : Vec F S1152x256 .fp8e4m3
  s1 : Vec F S1x256 .f32
  s2 : Vec F S1x256 .f32
  xc : Vec F S6x256x1152 .fp8e4m3
  xs : Vec F S6x256x128 .f32

section parts
variable (D : In F) {b r : ℕ} (ev : Ev b r)

/-- The batch's length. -/
def In.l : BitVec 32 := D.len ((Rect.unit (s := S6) ![b] S1.size ev.l).emb (Shape.Idx.first (numel1_S1 ▸ Nat.one_pos)))
/-- The block's codes. -/
def In.x : Vec F S1x128x1152 .fp8e4m3 := fun y => D.xc ((Rect.unit (s := S6x256x1152) ![b, r, 0] S1x128x1152.size ev.x).emb y)
/-- The block's row scales, the same in every lane. -/
def In.s : Vec F S1x128x128 .f32 := fun y => D.xs ((Rect.unit (s := S6x256x128) ![b, r, 0] S1x128x128.size ev.s).emb y)
/-- The block's part of the scale lanes. -/
def part (g : Vec F S6x256x128 .f32) : Vec F S1x128x128 .f32 := fun y => g ((Rect.unit (s := S6x256x128) ![b, r, 0] S1x128x128.size ev.s).emb y)
/-- The block's live rows. -/
def In.m : IVec S128x128 1 := rowMask r (D.l ev)
@[irreducible] def In.c0 : FVec F S1x128x128 .fp8e4m3 := code0 (D.x ev) D.w1 D.w2 (D.s ev) D.s1 D.s2 (D.m ev)
@[irreducible] def In.c1 : FVec F S1x128x128 .fp8e4m3 := code1 (D.x ev) D.w1 D.w2 (D.s ev) D.s1 D.s2 (D.m ev)
/-- The block's scale lanes once both scales are in. -/
@[irreducible] def In.lanes (a0 : BitVec 32) (g : Vec F S6x256x128 .f32) : FVec F S1x128x128 .f32 :=
  lane1 (D.x ev) D.w1 D.w2 (D.s ev) D.s1 D.s2 (D.m ev) a0 (lane0 (D.x ev) D.w1 D.w2 (D.s ev) D.s1 D.s2 (D.m ev) a0 (part ev g))
end parts

/-- The batch of a row. -/
def bOf {n : ℕ} (y : (⟨3, ![6, 256, n]⟩ : Shape).Idx) : Fin 6 := ⟨(y 0).val, (y 0).isLt⟩
/-- The half of the batch's rows that a row lies in. -/
def qOf {n : ℕ} (y : (⟨3, ![6, 256, n]⟩ : Shape).Idx) : Fin 2 := ⟨(y 1).val / 128, by have : (y 1).val < 256 := (y 1).isLt; omega⟩
/-- The row within its half. -/
def rOf {n : ℕ} (y : (⟨3, ![6, 256, n]⟩ : Shape).Idx) : Fin 128 := ⟨(y 1).val % 128, Nat.mod_lt _ (by decide)⟩
/-- The number of a row's block, in the order of their runs. -/
def kOf {n : ℕ} (y : (⟨3, ![6, 256, n]⟩ : Shape).Idx) : ℕ := 2 * (bOf y).val + (qOf y).val

/-- The codes that the twelve blocks leave. -/
def In.H (D : In F) : Vec F S6x256x256 .fp8e4m3 := fun y =>
  if Live (D.l (ev (bOf y) (qOf y))) (128 * (qOf y).val) then
    if h : (y 2).val < 128 then D.c0 (ev (bOf y) (qOf y)) (ix3 (0 : Fin 1) (rOf y) (⟨(y 2).val, h⟩ : Fin 128))
    else D.c1 (ev (bOf y) (qOf y)) (ix3 (0 : Fin 1) (rOf y) (⟨(y 2).val - 128, by have : (y 2).val < 256 := (y 2).isLt; omega⟩ : Fin 128))
  else k0_pay1 (F := F) (ix3 (0 : Fin 1) (rOf y) (⟨(y 2).val, (y 2).isLt⟩ : Fin 256))

/-- The scale lanes that the twelve blocks leave, from those they found. -/
def In.step (D : In F) (a0 : BitVec 32) (g : Vec F S6x256x128 .f32) : Vec F S6x256x128 .f32 := fun y =>
  if Live (D.l (ev (bOf y) (qOf y))) (128 * (qOf y).val) then
    D.lanes (ev (bOf y) (qOf y)) a0 g (ix3 (0 : Fin 1) (rOf y) (⟨(y 2).val, (y 2).isLt⟩ : Fin 128))
  else g y

section step
variable (arg7 : Memref sig .tc .vmem S6x256x256 .fp8e4m3) (arg12 : Memref sig .tc .vmem S6x256x128 .f32)

/-- The first `n` blocks are done in the codes and in the scale lanes, and the later ones are as they were. -/
def Done (D : In F) (a0 : BitVec 32) (g : Vec F S6x256x128 .f32) (n : ℕ)
    (f7 : BufTy.Contents (Elt F) arg7.view.ty) (f12 : BufTy.Contents (Elt F) arg12.view.ty) : Prop :=
  (∀ y : S6x256x256.Idx, kOf y < n → arg7.view.read (Elt F) f7 y = D.H y)
  ∧ (∀ y : S6x256x128.Idx, arg12.view.read (Elt F) f12 y = if kOf y < n then D.step a0 g y else g y)

theorem kOf_eq {n : ℕ} (y : (⟨3, ![6, 256, n]⟩ : Shape).Idx) : kOf y = 2 * (y 0).val + (y 1).val / 128 := rfl

theorem eq_of_kOf {n : ℕ} {y : (⟨3, ![6, 256, n]⟩ : Shape).Idx} {b : Fin 6} {q : Fin 2} (h : kOf y = 2 * b.val + q.val) : bOf y = b ∧ qOf y = q := by
  unfold kOf at h
  have := (qOf y).isLt; have := q.isLt
  exact ⟨Fin.ext (by omega), Fin.ext (by omega)⟩

theorem ne_of_kOf {n : ℕ} {y : (⟨3, ![6, 256, n]⟩ : Shape).Idx} {b : Fin 6} {q : Fin 2} (h : kOf y ≠ 2 * b.val + q.val) :
    ((y 0).val < b.val ∨ b.val + 1 ≤ (y 0).val) ∨ ((y 1).val < 128 * q.val ∨ 128 * q.val + 128 ≤ (y 1).val) := by
  unfold kOf at h
  have h0 : (bOf y).val = (y 0).val := rfl
  have h1 : (qOf y).val = (y 1).val / 128 := rfl
  rw [h0, h1] at h
  omega

/-- An entry outside the block's rows keeps what it had under a write of the block. -/
theorem read_out {e : EltTy} {n : ℕ} (v : View sig .tc .vmem (⟨3, ![6, 256, n]⟩ : Shape) e) (f : BufTy.Contents (Elt F) v.ty) {b : Fin 6} {q : Fin 2} {o w : ℕ}
    (inb : ∀ a, (![b.val, 128 * q.val, o] : Fin 3 → ℕ) a + (⟨3, ![1, 128, w]⟩ : Shape).size a ≤ (⟨3, ![6, 256, n]⟩ : Shape).size a)
    (p : Vec F ⟨3, ![1, 128, w]⟩ e) (L : List (View.Piece (Elt F) (⟨3, ![6, 256, n]⟩ : Shape) e)) (y : (⟨3, ![6, 256, n]⟩ : Shape).Idx)
    (h : kOf y ≠ 2 * b.val + q.val) :
    v.read (Elt F) (v.writes (Elt F) f (⟨Rect.unit (s := (⟨3, ![6, 256, n]⟩ : Shape)) ![b.val, 128 * q.val, o] (⟨3, ![1, 128, w]⟩ : Shape).size inb, p⟩ :: L)) y
      = v.read (Elt F) (v.writes (Elt F) f L) y := by
  rcases ne_of_kOf h with h | h
  · exact View.read_writes_cons_unit_of_not_mem v f inb p L y rfl 0 h
  · exact View.read_writes_cons_unit_of_not_mem v f inb p L y rfl 1 h

/-- An entry of the block's rows reads the write's entry. -/
theorem read_in {e : EltTy} {n : ℕ} (v : View sig .tc .vmem (⟨3, ![6, 256, n]⟩ : Shape) e) (f : BufTy.Contents (Elt F) v.ty) {b : Fin 6} {q : Fin 2} {o w : ℕ}
    (inb : ∀ a, (![b.val, 128 * q.val, o] : Fin 3 → ℕ) a + (⟨3, ![1, 128, w]⟩ : Shape).size a ≤ (⟨3, ![6, 256, n]⟩ : Shape).size a)
    (p : Vec F ⟨3, ![1, 128, w]⟩ e) (L : List (View.Piece (Elt F) (⟨3, ![6, 256, n]⟩ : Shape) e)) (y : (⟨3, ![6, 256, n]⟩ : Shape).Idx)
    (h : kOf y = 2 * b.val + q.val) (j : Fin w) (hj : (y 2).val = o + j.val) :
    v.read (Elt F) (v.writes (Elt F) f (⟨Rect.unit (s := (⟨3, ![6, 256, n]⟩ : Shape)) ![b.val, 128 * q.val, o] (⟨3, ![1, 128, w]⟩ : Shape).size inb, p⟩ :: L)) y
      = p (ix3 (0 : Fin 1) (rOf y) j) := by
  obtain ⟨rfl, rfl⟩ := eq_of_kOf h
  refine View.read_writes_cons_unit_of_mem v f inb p L y (ix3 (0 : Fin 1) (rOf y) j) rfl fun a => ?_
  have h1 : (qOf y).val = (y 1).val / 128 := rfl
  have h2 : (rOf y).val = (y 1).val % 128 := rfl
  match a with
  | 0 => show (y 0).val = (bOf y).val + 0; rfl
  | 1 => show (y 1).val = 128 * (qOf y).val + (rOf y).val; omega
  | 2 => exact hj

theorem part_read {D : In F} {a0 : BitVec 32} {g : Vec F S6x256x128 .f32} {b : Fin 6} {q : Fin 2} {f7 : BufTy.Contents (Elt F) arg7.view.ty} {f12 : BufTy.Contents (Elt F) arg12.view.ty}
    (h : Done arg7 arg12 D a0 g (2 * b.val + q.val) f7 f12) : rS arg12 f12 b.val (128 * q.val) (ev b q) = part (ev b q) g := by
  funext y
  refine (h.2 _).trans (if_neg ?_)
  have l1 : (y 1).val < 128 := (y 1).isLt
  show ¬ 2 * (b.val + 1 * (y 0).val) + (128 * q.val + 1 * (y 1).val) / 128 < 2 * b.val + q.val
  omega

/-- A live block's writes finish it. -/
theorem done_live {D : In F} {a0 : BitVec 32} {g : Vec F S6x256x128 .f32} {b : Fin 6} {q : Fin 2} {f7 : BufTy.Contents (Elt F) arg7.view.ty} {f12 : BufTy.Contents (Elt F) arg12.view.ty}
    (h : Done arg7 arg12 D a0 g (2 * b.val + q.val) f7 f12) (hl : Live (D.l (ev b q)) (128 * q.val)) (p : FVec F S1x128x128 .f32) :
    Done arg7 arg12 D a0 g (2 * b.val + q.val + 1)
      (arg7.view.writes (Elt F) f7
        [⟨Rect.unit (s := S6x256x256) ![b.val, 128 * q.val, 128] S1x128x128.size (ev b q).h1, D.c1 (ev b q)⟩,
         ⟨Rect.unit (s := S6x256x256) ![b.val, 128 * q.val, 0] S1x128x128.size (ev b q).h0, D.c0 (ev b q)⟩])
      (arg12.view.writes (Elt F) f12
        [⟨Rect.unit (s := S6x256x128) ![b.val, 128 * q.val, 0] S1x128x128.size (ev b q).s, D.lanes (ev b q) a0 g⟩,
         ⟨Rect.unit (s := S6x256x128) ![b.val, 128 * q.val, 0] S1x128x128.size (ev b q).s, p⟩]) := by
  constructor
  · intro y hy
    by_cases hk : kOf y = 2 * b.val + q.val
    · obtain ⟨rfl, rfl⟩ := eq_of_kOf hk
      unfold In.H
      rw [if_pos hl]
      by_cases h2 : (y 2).val < 128
      · rw [dif_pos h2]
        refine (View.read_writes_cons_unit_of_not_mem arg7.view f7 (ev (bOf y) (qOf y)).h1 _ _ y rfl 2 (.inl h2)).trans ?_
        exact read_in arg7.view f7 (ev (bOf y) (qOf y)).h0 _ [] y hk ⟨(y 2).val, h2⟩ (Nat.zero_add _).symm
      · rw [dif_neg h2]
        exact read_in arg7.view f7 (ev (bOf y) (qOf y)).h1 _ _ y hk ⟨(y 2).val - 128, _⟩ (by show (y 2).val = 128 + ((y 2).val - 128); omega)
    · refine (read_out arg7.view f7 (ev b q).h1 _ _ y hk).trans ((read_out arg7.view f7 (ev b q).h0 _ [] y hk).trans ?_)
      exact h.1 y (by omega)
  · intro y
    by_cases hk : kOf y = 2 * b.val + q.val
    · rw [if_pos (by omega)]
      refine (read_in arg12.view f12 (ev b q).s _ _ y hk ⟨(y 2).val, (y 2).isLt⟩ (Nat.zero_add _).symm).trans ?_
      obtain ⟨rfl, rfl⟩ := eq_of_kOf hk
      unfold In.step
      rw [if_pos hl]
    · refine (read_out arg12.view f12 (ev b q).s _ _ y hk).trans ((read_out arg12.view f12 (ev b q).s _ [] y hk).trans ?_)
      refine (h.2 y).trans ?_
      by_cases hlt : kOf y < 2 * b.val + q.val
      · rw [if_pos hlt, if_pos (by omega)]
      · rw [if_neg hlt, if_neg (by omega)]

/-- A dead block's zeros finish it. -/
theorem done_dead {D : In F} {a0 : BitVec 32} {g : Vec F S6x256x128 .f32} {b : Fin 6} {q : Fin 2} {f7 : BufTy.Contents (Elt F) arg7.view.ty} {f12 : BufTy.Contents (Elt F) arg12.view.ty}
    (h : Done arg7 arg12 D a0 g (2 * b.val + q.val) f7 f12) (hl : ¬ Live (D.l (ev b q)) (128 * q.val)) :
    Done arg7 arg12 D a0 g (2 * b.val + q.val + 1)
      (arg7.view.writes (Elt F) f7 [⟨Rect.unit (s := S6x256x256) ![b.val, 128 * q.val, 0] S1x128x256.size (ev b q).hz, k0_pay1 (F := F)⟩]) f12 := by
  constructor
  · intro y hy
    by_cases hk : kOf y = 2 * b.val + q.val
    · obtain ⟨rfl, rfl⟩ := eq_of_kOf hk
      unfold In.H
      rw [if_neg hl]
      exact read_in arg7.view f7 (ev (bOf y) (qOf y)).hz _ [] y hk ⟨(y 2).val, (y 2).isLt⟩ (Nat.zero_add _).symm
    · refine (read_out arg7.view f7 (ev b q).hz _ [] y hk).trans ?_
      exact h.1 y (by omega)
  · intro y
    refine (h.2 y).trans ?_
    by_cases hk : kOf y = 2 * b.val + q.val
    · rw [if_neg (by omega), if_pos (by omega)]
      obtain ⟨rfl, rfl⟩ := eq_of_kOf hk
      unfold In.step
      rw [if_neg hl]
    · by_cases hlt : kOf y < 2 * b.val + q.val
      · rw [if_pos hlt, if_pos (by omega)]
      · rw [if_neg hlt, if_neg (by omega)]

end step

end Cert.KernelIdeal.Blk

end

end
-- ==== Proof.Rows.lean ====
module

public import proofs.«01_k».proof.Proof.Values
public import Idealize.ShloMosaic.Lib.WritesUnit
public import Idealize.ShloMosaic.Lib.VecWindow
public import Idealize.ShloMosaic.Lib.Pointwise

/-! # What the first grid point's loop leaves: the rows' codes and scales -/

@[expose] public section

set_option maxRecDepth 8192
set_option maxHeartbeats 400000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## One chunk of 32 rows -/

/-- The codes of 32 rows, the first of them `w` in its batch. -/
def chunkC (x : Vec F S1x32x1152 .bf16) (len w : BitVec 32) : FVec F S1x32x1152 .fp8e4m3 :=
  k0_pay15 w (k0_pay6 x) (k0_pay9 (k0_pay7 x) k0_pay8) (k0_pay10 (k0_pay7 x) k0_pay8) (k0_pay11 (k0_pay7 x) k0_pay8) len
/-- The scales of 32 rows, the same in every lane. -/
def chunkS (x : Vec F S1x32x1152 .bf16) (len w : BitVec 32) : FVec F S1x32x128 .f32 :=
  k0_pay16 w (k0_pay9 (k0_pay7 x) k0_pay8) (k0_pay10 (k0_pay7 x) k0_pay8) (k0_pay11 (k0_pay7 x) k0_pay8) len

/-- The row of the batch that trip `k` begins at, as the kernel computes it. -/
def rowW (k0_t1 : Fin k0_t1_loop.trips) : BitVec 32 :=
  let arg13 : BitVec 32 := Scf.iv 0#32 1#32 k0_t1
  let v166 : BitVec 1 := Scalar.cmpi .eq 8#32 0#32
  let v167 : BitVec 32 := Scalar.select v166 1#32 8#32
  let v168 : BitVec 32 := Scalar.remsi arg13 v167
  let v169 : BitVec 1 := Scalar.cmpi .ne v168 0#32
  let v170 : BitVec 1 := Scalar.cmpi .slt v168 0#32
  let v171 : BitVec 1 := Scalar.cmpi .slt v167 0#32
  let v172 : BitVec 1 := Scalar.xori v170 v171
  let v173 : BitVec 1 := Scalar.andi v172 v169
  let v174 : BitVec 32 := Scalar.addi v168 v167
  let v175 : BitVec 32 := Scalar.select v173 v174 v168
  Scalar.muli v175 32#32

theorem trips_eq : k0_t1_loop.trips = 48 := by decide
theorem rowW_eq : ∀ k : Fin k0_t1_loop.trips, rowW k = BitVec.ofNat 32 (32 * (k.val % 8)) := by decide
theorem off1_eq : ∀ k : Fin k0_t1_loop.trips, k0_off1 k = ![k.val / 8, 32 * (k.val % 8), 0] := by decide
theorem off2_eq : ∀ k : Fin k0_t1_loop.trips, k0_off2 k = ![k.val / 8] := by decide
theorem off3_eq : ∀ k : Fin k0_t1_loop.trips, k0_off3 k = ![k.val / 8, 32 * (k.val % 8), 0] := by decide

/-- The rectangles of the chunk `p` of batch `b`. -/
theorem inbX (b : Fin 6) (p : Fin 8) : ∀ a, (![b.val, 32 * p.val, 0] : Fin 3 → ℕ) a + S1x32x1152.size a ≤ S6x256x1152.size a := by revert b p; decide
theorem inbS (b : Fin 6) (p : Fin 8) : ∀ a, (![b.val, 32 * p.val, 0] : Fin 3 → ℕ) a + S1x32x128.size a ≤ S6x256x128.size a := by revert b p; decide
theorem inbL (b : Fin 6) : ∀ a, (![b.val] : Fin 1 → ℕ) a + S1.size a ≤ S6.size a := by revert b; decide

/-- The chunk's rows. -/
def rowsOf (X : Vec F S6x256x1152 .bf16) (b : Fin 6) (p : Fin 8) : Vec F S1x32x1152 .bf16 :=
  VecWindow.window X ![b.val, 32 * p.val, 0] S1x32x1152.size (inbX b p)
/-- The chunk's length. -/
def lenOf (L : Vec F S6 .i32) (b : Fin 6) : BitVec 32 :=
  VecWindow.window L ![b.val] S1.size (inbL b) (Shape.Idx.first (numel1_S1 ▸ Nat.one_pos))

def pOf {n : ℕ} (y : (⟨3, ![6, 256, n]⟩ : Shape).Idx) : Fin 8 := ⟨(y 1).val / 32, by have : (y 1).val < 256 := (y 1).isLt; omega⟩
def uOf {n : ℕ} (y : (⟨3, ![6, 256, n]⟩ : Shape).Idx) : Fin 32 := ⟨(y 1).val % 32, Nat.mod_lt _ (by decide)⟩

/-- The trip that writes a row. -/
def tOf {n : ℕ} (y : (⟨3, ![6, 256, n]⟩ : Shape).Idx) : ℕ := 8 * (bOf y).val + (pOf y).val
theorem tOf_eq {n : ℕ} (y : (⟨3, ![6, 256, n]⟩ : Shape).Idx) : tOf y = 8 * (y 0).val + (y 1).val / 32 := rfl

/-- All rows' codes. -/
def XC (L : Vec F S6 .i32) (X : Vec F S6x256x1152 .bf16) : Vec F S6x256x1152 .fp8e4m3 := fun y =>
  chunkC (rowsOf X (bOf y) (pOf y)) (lenOf (F := F) L (bOf y)) (BitVec.ofNat 32 (32 * (pOf y).val)) (ix3 (0 : Fin 1) (uOf y) (⟨(y 2).val, (y 2).isLt⟩ : Fin 1152))
/-- All rows' scales, the same in every lane. -/
def XS (L : Vec F S6 .i32) (X : Vec F S6x256x1152 .bf16) : Vec F S6x256x128 .f32 := fun y =>
  chunkS (rowsOf X (bOf y) (pOf y)) (lenOf (F := F) L (bOf y)) (BitVec.ofNat 32 (32 * (pOf y).val)) (ix3 (0 : Fin 1) (uOf y) (⟨(y 2).val, (y 2).isLt⟩ : Fin 128))

theorem XC_eq (L : Vec F S6 .i32) (X : Vec F S6x256x1152 .bf16) (y : S6x256x1152.Idx) (b : Fin 6) (p : Fin 8) (hb : b = bOf y) (hp : p = pOf y) :
    chunkC (rowsOf X b p) (lenOf (F := F) L b) (BitVec.ofNat 32 (32 * p.val)) (ix3 (0 : Fin 1) (uOf y) (⟨(y 2).val, (y 2).isLt⟩ : Fin 1152)) = XC L X y := by
  subst hb; subst hp; rfl

theorem XS_eq (L : Vec F S6 .i32) (X : Vec F S6x256x1152 .bf16) (y : S6x256x128.Idx) (b : Fin 6) (p : Fin 8) (hb : b = bOf y) (hp : p = pOf y) :
    chunkS (rowsOf X b p) (lenOf (F := F) L b) (BitVec.ofNat 32 (32 * p.val)) (ix3 (0 : Fin 1) (uOf y) (⟨(y 2).val, (y 2).isLt⟩ : Fin 128)) = XS L X y := by
  subst hb; subst hp; rfl

/-- A write of the trip `k`'s rows, read back. -/
theorem read_trip {e : EltTy} {n : ℕ} (v : View sig .tc .vmem (⟨3, ![6, 256, n]⟩ : Shape) e) (f : BufTy.Contents (Elt F) v.ty) {k : ℕ} {o : Fin 3 → ℕ} (ho : o = ![k / 8, 32 * (k % 8), 0])
    (inb : ∀ a, o a + (⟨3, ![1, 32, n]⟩ : Shape).size a ≤ (⟨3, ![6, 256, n]⟩ : Shape).size a) (p : Vec F ⟨3, ![1, 32, n]⟩ e) (y : (⟨3, ![6, 256, n]⟩ : Shape).Idx) :
    v.read (Elt F) (v.writes (Elt F) f [⟨Rect.unit (s := (⟨3, ![6, 256, n]⟩ : Shape)) o (⟨3, ![1, 32, n]⟩ : Shape).size inb, p⟩]) y
      = if tOf y = k then p (ix3 (0 : Fin 1) (uOf y) (⟨(y 2).val, (y 2).isLt⟩ : Fin n)) else v.read (Elt F) f y := by
  have hy1 : (y 1).val < 256 := (y 1).isLt
  have hu : (uOf y).val = (y 1).val % 32 := rfl
  by_cases h : tOf y = k
  · rw [if_pos h]
    rw [tOf_eq] at h
    refine View.read_writes_cons_unit_of_mem v f inb p [] y (ix3 (0 : Fin 1) (uOf y) (⟨(y 2).val, (y 2).isLt⟩ : Fin n)) ho fun a => ?_
    match a with
    | 0 => show (y 0).val = k / 8 + 0; omega
    | 1 => show (y 1).val = 32 * (k % 8) + (uOf y).val; omega
    | 2 => exact (Nat.zero_add _).symm
  · rw [if_neg h]
    rw [tOf_eq] at h
    by_cases h0 : (y 0).val < k / 8 ∨ k / 8 + 1 ≤ (y 0).val
    · exact View.read_writes_cons_unit_of_not_mem v f inb p [] y ho 0 h0
    · refine View.read_writes_cons_unit_of_not_mem v f inb p [] y ho 1 ?_
      show (y 1).val < 32 * (k % 8) ∨ 32 * (k % 8) + 32 ≤ (y 1).val
      omega

section loop
variable (arg1 : Memref sig .tc .smem S6 .i32) (arg2 : Memref sig .tc .vmem S6x256x1152 .bf16) (arg9 : Memref sig .tc .vmem S6x256x1152 .fp8e4m3) (arg11 : Memref sig .tc .vmem S6x256x128 .f32)

/-- The rows of the trips before `k` are done. -/
def DoneR (L : Vec F S6 .i32) (X : Vec F S6x256x1152 .bf16) (k : ℕ) (f9 : BufTy.Contents (Elt F) arg9.view.ty) (f11 : BufTy.Contents (Elt F) arg11.view.ty) : Prop :=
  (∀ y : S6x256x1152.Idx, tOf y < k → arg9.view.read (Elt F) f9 y = XC L X y)
  ∧ (∀ y : S6x256x128.Idx, tOf y < k → arg11.view.read (Elt F) f11 y = XS L X y)

abbrev ldX (X2 : BufTy.Contents (Elt F) arg2.view.ty) (i : grid0.Coords) (h : k0_cond1 i = 1#1) (k : Fin k0_t1_loop.trips) : Vec F S1x32x1152 .bf16 :=
  View.readAt (Elt F) arg2.view (Rect.unit (s := S6x256x1152) (k0_off1 k) S1x32x1152.size (k0_off1_inb i k h)).toLoadRect X2
abbrev ldL (X1 : BufTy.Contents (Elt F) arg1.view.ty) (i : grid0.Coords) (h : k0_cond1 i = 1#1) (k : Fin k0_t1_loop.trips) : BitVec 32 :=
  View.readAt (Elt F) arg1.view (Rect.unit (s := S6) (k0_off2 k) S1.size (k0_off2_inb i k h)).toLoadRect X1 (Shape.Idx.first (numel1_S1 ▸ Nat.one_pos))

/-- The buffers of the loop. -/
abbrev ResR (c : Dev nD) (X1 : BufTy.Contents (Elt F) arg1.view.ty) (X2 : BufTy.Contents (Elt F) arg2.view.ty) (f9 : BufTy.Contents (Elt F) arg9.view.ty) (f11 : BufTy.Contents (Elt F) arg11.view.ty) : sProp 𝕄G :=
  iprop((arg1.view.loc (c : Thread nD τ) ↦[arg1.view.set]{fullShare} X1) ∗ (arg2.view.loc (c : Thread nD τ) ↦[arg2.view.set]{fullShare} X2)
    ∗ (arg9.view.loc (c : Thread nD τ) ↦[arg9.view.set]{fullShare} f9) ∗ (arg11.view.loc (c : Thread nD τ) ↦[arg11.view.set]{fullShare} f11))

/-- A trip's writes finish its rows. -/
theorem doneR_step {X1 : BufTy.Contents (Elt F) arg1.view.ty} {X2 : BufTy.Contents (Elt F) arg2.view.ty} (i : grid0.Coords) (h : k0_cond1 i = 1#1) (k : Fin k0_t1_loop.trips)
    {f9 : BufTy.Contents (Elt F) arg9.view.ty} {f11 : BufTy.Contents (Elt F) arg11.view.ty}
    (hd : DoneR arg9 arg11 (arg1.view.read (Elt F) X1) (arg2.view.read (Elt F) X2) k.val f9 f11) :
    DoneR arg9 arg11 (arg1.view.read (Elt F) X1) (arg2.view.read (Elt F) X2) (k.val + 1)
      (arg9.view.writes (Elt F) f9 [⟨Rect.unit (s := S6x256x1152) (k0_off1 k) S1x32x1152.size (k0_off1_inb i k h), chunkC (ldX arg2 X2 i h k) (ldL arg1 X1 i h k) (rowW k)⟩])
      (arg11.view.writes (Elt F) f11 [⟨Rect.unit (s := S6x256x128) (k0_off3 k) S1x32x128.size (k0_off3_inb i k h), chunkS (ldX arg2 X2 i h k) (ldL arg1 X1 i h k) (rowW k)⟩]) := by
  have hk : k.val < 48 := trips_eq ▸ k.isLt
  have e1 : ldX arg2 X2 i h k = rowsOf (arg2.view.read (Elt F) X2) ⟨k.val / 8, by omega⟩ ⟨k.val % 8, Nat.mod_lt _ (by decide)⟩ :=
    View.readAt_unit arg2.view X2 _ (off1_eq k) _
  have e2 : ldL arg1 X1 i h k = lenOf (F := F) (arg1.view.read (Elt F) X1) ⟨k.val / 8, by omega⟩ :=
    congrFun (View.readAt_unit arg1.view X1 _ (off2_eq k) (inbL ⟨k.val / 8, by omega⟩)) _
  have e3 := rowW_eq k
  rw [e1, e2, e3]
  have key : ∀ {n : ℕ} (y : (⟨3, ![6, 256, n]⟩ : Shape).Idx), tOf y = k.val → (⟨k.val / 8, by omega⟩ : Fin 6) = bOf y ∧ (⟨k.val % 8, Nat.mod_lt _ (by decide)⟩ : Fin 8) = pOf y := by
    intro n y hy
    unfold tOf at hy
    have := (pOf y).isLt
    exact ⟨Fin.ext (show k.val / 8 = _ by omega), Fin.ext (show k.val % 8 = _ by omega)⟩
  constructor
  · intro y hy
    refine (read_trip arg9.view f9 (off1_eq k) _ _ y).trans ?_
    by_cases ht : tOf y = k.val
    · rw [if_pos ht]
      exact XC_eq _ _ y _ _ (key y ht).1 (key y ht).2
    · rw [if_neg ht]; exact hd.1 y (by omega)
  · intro y hy
    refine (read_trip arg11.view f11 (off3_eq k) _ _ y).trans ?_
    by_cases ht : tOf y = k.val
    · rw [if_pos ht]
      exact XS_eq _ _ y _ _ (key y ht).1 (key y ht).2
    · rw [if_neg ht]; exact hd.2 y (by omega)

end loop

/-- One trip of the loop. -/
theorem trip_run (𝒱 : Variants) (c : Dev nD) (bd : Option 𝒱.V) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (k0_h1 : k0_cond1 i = 1#1) (k : Fin k0_t1_loop.trips) (E : Set ℕ)
    (X1 : BufTy.Contents (Elt F) arg1.view.ty) (X2 : BufTy.Contents (Elt F) arg2.view.ty) (f9 : BufTy.Contents (Elt F) arg9.view.ty) (f11 : BufTy.Contents (Elt F) arg11.view.ty) :
    ResR (F := F) arg1 arg2 arg9 arg11 c X1 X2 f9 f11 ⊢ wp frame (wpE (defs₀ (F := F)) 𝒱 (c : Thread nD τ) bd) E (k0_t1_body (F := F) i arg1 harg1 arg2 harg2 arg3 harg3 arg4 harg4 arg5 harg5 arg6 harg6 arg7 harg7 arg8 harg8 arg9 harg9 arg10 harg10 arg11 harg11 arg12 harg12 k0_h1 k PUnit.unit)
      (fun _ => ResR (F := F) arg1 arg2 arg9 arg11 c X1 X2
        (arg9.view.writes (Elt F) f9 [⟨Rect.unit (s := S6x256x1152) (k0_off1 k) S1x32x1152.size (k0_off1_inb i k k0_h1), chunkC (ldX arg2 X2 i k0_h1 k) (ldL arg1 X1 i k0_h1 k) (rowW k)⟩])
        (arg11.view.writes (Elt F) f11 [⟨Rect.unit (s := S6x256x128) (k0_off3 k) S1x32x128.size (k0_off3_inb i k k0_h1), chunkS (ldX arg2 X2 i k0_h1 k) (ldL arg1 X1 i k0_h1 k) (rowW k)⟩])) := by
  have hk : k.val < 48 := trips_eq ▸ k.isLt
  unfold k0_t1_body
  iintro ⟨HR_arg1, HR_arg2, HW_arg9, HW_arg11⟩
  sl_exec
  sl_step
  have e0 : ∀ k, trip_run.sl.v176 k = rowW k := by decide
  have e1 : trip_run.sl.r i arg2 k0_h1 k X2 = k0_pay6 (ldX arg2 X2 i k0_h1 k) := rfl
  have e2 : trip_run.sl.r_2 i arg2 k0_h1 k X2 = k0_pay9 (k0_pay7 (ldX arg2 X2 i k0_h1 k)) k0_pay8 := rfl
  have e3 : trip_run.sl.r_3 i arg2 k0_h1 k X2 = k0_pay10 (k0_pay7 (ldX arg2 X2 i k0_h1 k)) k0_pay8 := rfl
  have e4 : trip_run.sl.r_4 i arg2 k0_h1 k X2 = k0_pay11 (k0_pay7 (ldX arg2 X2 i k0_h1 k)) k0_pay8 := rfl
  have e5 : trip_run.sl.r_5 i arg1 k0_h1 k X1 = ldL arg1 X1 i k0_h1 k := rfl
  rw [e0, e1, e2, e3, e4, e5]
  unfold chunkC chunkS
  isplitl [HR_arg1]; · iexact HR_arg1
  isplitl [HR_arg2]; · iexact HR_arg2
  isplitl [HW_arg9]; · iexact HW_arg9
  iexact HW_arg11

set_option warn.classDefReducibility false in
/-- The loop by its invariant: the rows of the trips done so far hold their codes and scales. -/
@[sl_loop] def rowsLoop (𝒱 : Variants) (c : Dev nD) (bd : Option 𝒱.V) (E : Set ℕ) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (k0_h1 : k0_cond1 i = 1#1)
    (X1 : BufTy.Contents (Elt F) arg1.view.ty) (X2 : BufTy.Contents (Elt F) arg2.view.ty) :
    Idealize.ShloMosaic.LoopInv (M := MT nD τ sig Unit (Elt F) ℕ (UR sig nD τ) ℕ) Idealize.ShloMosaic.frame (wpE (defs₀ (F := F)) 𝒱 (c : Thread nD τ) bd) E
      k0_t1_loop.lb k0_t1_loop.ub k0_t1_loop.st (k0_t1_ok i k0_h1) () (k0_t1_body (F := F) i arg1 harg1 arg2 harg2 arg3 harg3 arg4 harg4 arg5 harg5 arg6 harg6 arg7 harg7 arg8 harg8 arg9 harg9 arg10 harg10 arg11 harg11 arg12 harg12 k0_h1) where
  inv k _ := iprop((arg1.view.loc (c : Thread nD τ) ↦[arg1.view.set]{fullShare} X1) ∗ (arg2.view.loc (c : Thread nD τ) ↦[arg2.view.set]{fullShare} X2)
    ∗ ∃ f9, (arg9.view.loc (c : Thread nD τ) ↦[arg9.view.set]{fullShare} f9) ∗ ∃ f11, (arg11.view.loc (c : Thread nD τ) ↦[arg11.view.set]{fullShare} f11)
      ∗ ⌜DoneR arg9 arg11 (arg1.view.read (Elt F) X1) (arg2.view.read (Elt F) X2) k f9 f11⌝)
  step k acc := by
    iintro ⟨H1, H2, ⟨%f9, H9, ⟨%f11, H11, %hd⟩⟩⟩
    iapply (wp_wand_r Idealize.ShloMosaic.frame (wpE (defs₀ (F := F)) 𝒱 (c : Thread nD τ) bd) E)
    isplitl [H1 H2 H9 H11]
    · iapply (trip_run (F := F) 𝒱 c bd i arg1 harg1 arg2 harg2 arg3 harg3 arg4 harg4 arg5 harg5 arg6 harg6 arg7 harg7 arg8 harg8 arg9 harg9 arg10 harg10 arg11 harg11 arg12 harg12 k0_h1 k E X1 X2 f9 f11)
      isplitl [H1]; · iexact H1
      isplitl [H2]; · iexact H2
      isplitl [H9]; · iexact H9
      iexact H11
    · iintro %_ ⟨H1, H2, H9, H11⟩
      isplitl [H1]; · iexact H1
      isplitl [H2]; · iexact H2
      iexists _; isplitl [H9]; · iexact H9
      iexists _; isplitl [H11]; · iexact H11
      ipureintro
      exact doneR_step arg1 arg2 arg9 arg11 i k0_h1 k hd

end Cert.KernelIdeal.Blk

end

end
-- ==== Proof.Ends.lean ====
module

public import proofs.«01_k».proof.Proof.Rows
public import Idealize.ShloMosaic.Lib.WritesUnit
public import Idealize.ShloMosaic.Lib.VecWindow
public import Idealize.ShloMosaic.Lib.Pointwise

/-! # What the first and the last grid point do beside the blocks -/

@[expose] public section

set_option maxRecDepth 8192
set_option maxHeartbeats 400000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-! ## Six writes, one a batch -/

/-- A write of one batch, read back. -/
theorem read_batch {m n : ℕ} (v : View sig .tc .vmem (⟨3, ![6, m, n]⟩ : Shape) .f32) (f : BufTy.Contents (Elt F) v.ty) {b : ℕ}
    (inb : ∀ a, (![b, 0, 0] : Fin 3 → ℕ) a + (⟨3, ![1, m, n]⟩ : Shape).size a ≤ (⟨3, ![6, m, n]⟩ : Shape).size a) (p : Vec F ⟨3, ![1, m, n]⟩ .f32)
    (L : List (View.Piece (Elt F) (⟨3, ![6, m, n]⟩ : Shape) .f32)) (y : (⟨3, ![6, m, n]⟩ : Shape).Idx) :
    v.read (Elt F) (v.writes (Elt F) f (⟨Rect.unit (s := (⟨3, ![6, m, n]⟩ : Shape)) ![b, 0, 0] (⟨3, ![1, m, n]⟩ : Shape).size inb, p⟩ :: L)) y
      = if (y 0).val = b then p (ix3 (0 : Fin 1) (⟨(y 1).val, (y 1).isLt⟩ : Fin m) (⟨(y 2).val, (y 2).isLt⟩ : Fin n)) else v.read (Elt F) (v.writes (Elt F) f L) y := by
  by_cases h : (y 0).val = b
  · rw [if_pos h]
    refine View.read_writes_cons_unit_of_mem v f inb p L y (ix3 (0 : Fin 1) (⟨(y 1).val, (y 1).isLt⟩ : Fin m) (⟨(y 2).val, (y 2).isLt⟩ : Fin n)) rfl fun a => ?_
    match a with
    | 0 => show (y 0).val = b + 0; omega
    | 1 => exact (Nat.zero_add _).symm
    | 2 => exact (Nat.zero_add _).symm
  · rw [if_neg h]
    exact View.read_writes_cons_unit_of_not_mem v f inb p L y rfl 0 (show (y 0).val < b ∨ b + 1 ≤ (y 0).val by omega)

/-- The batch of an entry. -/
def bOf3 {m n : ℕ} (y : (⟨3, ![6, m, n]⟩ : Shape).Idx) : Fin 6 := ⟨(y 0).val, (y 0).isLt⟩

/-- The first lane of every row's scale, batch by batch. -/
def T10 (s : Vec F S6x256x128 .f32) : Vec F S6x1x256 .f32 := fun y => s (ix3 (bOf3 y) (⟨(y 2).val, (y 2).isLt⟩ : Fin 256) (0 : Fin 128))
/-- The first 54 lanes of every row's scales, as columns. -/
def T8 (s : Vec F S6x256x128 .f32) : Vec F S6x54x256 .f32 := fun y =>
  s (ix3 (bOf3 y) (⟨(y 2).val, (y 2).isLt⟩ : Fin 256) (⟨(y 1).val, Nat.lt_trans (show (y 1).val < 54 from (y 1).isLt) (by decide)⟩ : Fin 128))

theorem pay17_at (x : Vec F S1x256x128 .f32) (u : Fin 1) (j : Fin 256) : k0_pay17 x (ix3 (0 : Fin 1) u j) = x (ix3 (0 : Fin 1) j (0 : Fin 128)) := by
  pointwise [k0_pay17]
theorem pay4_at (x : Vec F S1x256x128 .f32) (u : Fin 54) (j : Fin 256) :
    k0_pay4 x (ix3 (0 : Fin 1) u j) = x (ix3 (0 : Fin 1) j (⟨u.val, by omega⟩ : Fin 128)) := by
  pointwise [k0_pay4]

theorem load_at (v : View sig .tc .vmem S6x256x128 .f32) (f : BufTy.Contents (Elt F) v.ty) {b : ℕ}
    (inb : ∀ a, (![b, 0, 0] : Fin 3 → ℕ) a + S1x256x128.size a ≤ S6x256x128.size a) (b' : Fin 6) (h : b'.val = b) (j : Fin 256) (l : Fin 128) :
    v.readAt (Elt F) (Rect.unit (s := S6x256x128) ![b, 0, 0] S1x256x128.size inb).toLoadRect f (ix3 (0 : Fin 1) j l) = v.read (Elt F) f (ix3 b' j l) := by
  subst h
  refine congrArg (v.read (Elt F) f) (funext fun a => Fin.ext ?_)
  match a with
  | 0 => show b'.val + 1 * 0 = b'.val; omega
  | 1 => show 0 + 1 * j.val = j.val; omega
  | 2 => show 0 + 1 * l.val = l.val; omega

theorem read_T10 (v : View sig .tc .vmem S6x1x256 .f32) (f : BufTy.Contents (Elt F) v.ty) (v' : View sig .tc .vmem S6x256x128 .f32) (g : BufTy.Contents (Elt F) v'.ty) :
    v.read (Elt F) (v.writes (Elt F) f [⟨Rect.unit (s := S6x1x256) ![5, 0, 0] S1x1x256.size inb_S6x1x256_S1x1x256_5_0_0, k0_pay314 (v'.readAt (Elt F) (Rect.unit (s := S6x256x128) ![5, 0, 0] S1x256x128.size inb_S6x256x128_S1x256x128_5_0_0).toLoadRect g)⟩,
      ⟨Rect.unit (s := S6x1x256) ![4, 0, 0] S1x1x256.size inb_S6x1x256_S1x1x256_4_0_0, k0_pay313 (v'.readAt (Elt F) (Rect.unit (s := S6x256x128) ![4, 0, 0] S1x256x128.size inb_S6x256x128_S1x256x128_4_0_0).toLoadRect g)⟩,
      ⟨Rect.unit (s := S6x1x256) ![3, 0, 0] S1x1x256.size inb_S6x1x256_S1x1x256_3_0_0, k0_pay312 (v'.readAt (Elt F) (Rect.unit (s := S6x256x128) ![3, 0, 0] S1x256x128.size inb_S6x256x128_S1x256x128_3_0_0).toLoadRect g)⟩,
      ⟨Rect.unit (s := S6x1x256) ![2, 0, 0] S1x1x256.size inb_S6x1x256_S1x1x256_2_0_0, k0_pay19 (v'.readAt (Elt F) (Rect.unit (s := S6x256x128) ![2, 0, 0] S1x256x128.size inb_S6x256x128_S1x256x128_2_0_0).toLoadRect g)⟩,
      ⟨Rect.unit (s := S6x1x256) ![1, 0, 0] S1x1x256.size inb_S6x1x256_S1x1x256_1_0_0, k0_pay18 (v'.readAt (Elt F) (Rect.unit (s := S6x256x128) ![1, 0, 0] S1x256x128.size inb_S6x256x128_S1x256x128_1_0_0).toLoadRect g)⟩,
      ⟨Rect.unit (s := S6x1x256) ![0, 0, 0] S1x1x256.size inb_S6x1x256_S1x1x256_0_0_0, k0_pay17 (v'.readAt (Elt F) (Rect.unit (s := S6x256x128) ![0, 0, 0] S1x256x128.size inb_S6x256x128_S1x256x128_0_0_0).toLoadRect g)⟩]) = T10 (v'.read (Elt F) g) := by
  funext y
  have hy : (y 0).val < 6 := (y 0).isLt
  rw [read_batch]
  by_cases h5 : (y 0).val = 5
  · rw [if_pos h5]
    exact (pay17_at _ _ _).trans (load_at v' g _ (bOf3 y) h5 _ _)
  rw [if_neg h5]
  rw [read_batch]
  by_cases h4 : (y 0).val = 4
  · rw [if_pos h4]
    exact (pay17_at _ _ _).trans (load_at v' g _ (bOf3 y) h4 _ _)
  rw [if_neg h4]
  rw [read_batch]
  by_cases h3 : (y 0).val = 3
  · rw [if_pos h3]
    exact (pay17_at _ _ _).trans (load_at v' g _ (bOf3 y) h3 _ _)
  rw [if_neg h3]
  rw [read_batch]
  by_cases h2 : (y 0).val = 2
  · rw [if_pos h2]
    exact (pay17_at _ _ _).trans (load_at v' g _ (bOf3 y) h2 _ _)
  rw [if_neg h2]
  rw [read_batch]
  by_cases h1 : (y 0).val = 1
  · rw [if_pos h1]
    exact (pay17_at _ _ _).trans (load_at v' g _ (bOf3 y) h1 _ _)
  rw [if_neg h1]
  rw [read_batch]
  by_cases h0 : (y 0).val = 0
  · rw [if_pos h0]
    exact (pay17_at _ _ _).trans (load_at v' g _ (bOf3 y) h0 _ _)
  rw [if_neg h0]
  omega

theorem read_T8 (v : View sig .tc .vmem S6x54x256 .f32) (f : BufTy.Contents (Elt F) v.ty) (v' : View sig .tc .vmem S6x256x128 .f32) (g : BufTy.Contents (Elt F) v'.ty) :
    v.read (Elt F) (v.writes (Elt F) f [⟨Rect.unit (s := S6x54x256) ![5, 0, 0] S1x54x256.size inb_S6x54x256_S1x54x256_5_0_0, k0_pay5 (v'.readAt (Elt F) (Rect.unit (s := S6x256x128) ![5, 0, 0] S1x256x128.size inb_S6x256x128_S1x256x128_5_0_0).toLoadRect g)⟩,
      ⟨Rect.unit (s := S6x54x256) ![4, 0, 0] S1x54x256.size inb_S6x54x256_S1x54x256_4_0_0, k0_pay4 (v'.readAt (Elt F) (Rect.unit (s := S6x256x128) ![4, 0, 0] S1x256x128.size inb_S6x256x128_S1x256x128_4_0_0).toLoadRect g)⟩,
      ⟨Rect.unit (s := S6x54x256) ![3, 0, 0] S1x54x256.size inb_S6x54x256_S1x54x256_3_0_0, k0_pay311 (v'.readAt (Elt F) (Rect.unit (s := S6x256x128) ![3, 0, 0] S1x256x128.size inb_S6x256x128_S1x256x128_3_0_0).toLoadRect g)⟩,
      ⟨Rect.unit (s := S6x54x256) ![2, 0, 0] S1x54x256.size inb_S6x54x256_S1x54x256_2_0_0, k0_pay310 (v'.readAt (Elt F) (Rect.unit (s := S6x256x128) ![2, 0, 0] S1x256x128.size inb_S6x256x128_S1x256x128_2_0_0).toLoadRect g)⟩,
      ⟨Rect.unit (s := S6x54x256) ![1, 0, 0] S1x54x256.size inb_S6x54x256_S1x54x256_1_0_0, k0_pay309 (v'.readAt (Elt F) (Rect.unit (s := S6x256x128) ![1, 0, 0] S1x256x128.size inb_S6x256x128_S1x256x128_1_0_0).toLoadRect g)⟩,
      ⟨Rect.unit (s := S6x54x256) ![0, 0, 0] S1x54x256.size inb_S6x54x256_S1x54x256_0_0_0, k0_pay308 (v'.readAt (Elt F) (Rect.unit (s := S6x256x128) ![0, 0, 0] S1x256x128.size inb_S6x256x128_S1x256x128_0_0_0).toLoadRect g)⟩]) = T8 (v'.read (Elt F) g) := by
  funext y
  have hy : (y 0).val < 6 := (y 0).isLt
  rw [read_batch]
  by_cases h5 : (y 0).val = 5
  · rw [if_pos h5]
    exact (pay4_at _ _ _).trans (load_at v' g _ (bOf3 y) h5 _ _)
  rw [if_neg h5]
  rw [read_batch]
  by_cases h4 : (y 0).val = 4
  · rw [if_pos h4]
    exact (pay4_at _ _ _).trans (load_at v' g _ (bOf3 y) h4 _ _)
  rw [if_neg h4]
  rw [read_batch]
  by_cases h3 : (y 0).val = 3
  · rw [if_pos h3]
    exact (pay4_at _ _ _).trans (load_at v' g _ (bOf3 y) h3 _ _)
  rw [if_neg h3]
  rw [read_batch]
  by_cases h2 : (y 0).val = 2
  · rw [if_pos h2]
    exact (pay4_at _ _ _).trans (load_at v' g _ (bOf3 y) h2 _ _)
  rw [if_neg h2]
  rw [read_batch]
  by_cases h1 : (y 0).val = 1
  · rw [if_pos h1]
    exact (pay4_at _ _ _).trans (load_at v' g _ (bOf3 y) h1 _ _)
  rw [if_neg h1]
  rw [read_batch]
  by_cases h0 : (y 0).val = 0
  · rw [if_pos h0]
    exact (pay4_at _ _ _).trans (load_at v' g _ (bOf3 y) h0 _ _)
  rw [if_neg h0]
  omega

/-- The first grid point: the rows' codes and scales, the scales' transposed copy, cleared scale lanes. -/
theorem first_run (𝒱 : Variants) (c : Dev nD) (bd : Option 𝒱.V) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (k0_h1 : k0_cond1 i = 1#1) (E : Set ℕ)
    (X1 : BufTy.Contents (Elt F) arg1.view.ty) (X2 : BufTy.Contents (Elt F) arg2.view.ty) (f9 : BufTy.Contents (Elt F) arg9.view.ty) (f10 : BufTy.Contents (Elt F) arg10.view.ty) (f11 : BufTy.Contents (Elt F) arg11.view.ty) (f12 : BufTy.Contents (Elt F) arg12.view.ty) :
    (iprop((arg1.view.loc (c : Thread nD τ) ↦[arg1.view.set]{fullShare} X1) ∗ (arg2.view.loc (c : Thread nD τ) ↦[arg2.view.set]{fullShare} X2) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E (firstPart (F := F) i arg1 harg1 arg2 harg2 arg3 harg3 arg4 harg4 arg5 harg5 arg6 harg6 arg7 harg7 arg8 harg8 arg9 harg9 arg10 harg10 arg11 harg11 arg12 harg12)
      (fun _ => iprop(∃ g9 g10 g11 g12, (arg1.view.loc (c : Thread nD τ) ↦[arg1.view.set]{fullShare} X1) ∗ (arg2.view.loc (c : Thread nD τ) ↦[arg2.view.set]{fullShare} X2) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12) ∗ ⌜arg9.view.read (Elt F) g9 = XC (arg1.view.read (Elt F) X1) (arg2.view.read (Elt F) X2)
          ∧ arg11.view.read (Elt F) g11 = XS (arg1.view.read (Elt F) X1) (arg2.view.read (Elt F) X2)
          ∧ arg10.view.read (Elt F) g10 = T10 (XS (arg1.view.read (Elt F) X1) (arg2.view.read (Elt F) X2))
          ∧ arg12.view.read (Elt F) g12 = k0_pay12⌝)) := by
  unfold firstPart
  have h0 : DoneR arg9 arg11 (arg1.view.read (Elt F) X1) (arg2.view.read (Elt F) X2) 0 f9 f11 := ⟨fun y h => absurd h (Nat.not_lt_zero _), fun y h => absurd h (Nat.not_lt_zero _)⟩
  iintro ⟨H1, H2, H9, H10, H11, H12⟩
  sl_exec
  sl_step
  have hlt : ∀ {n : ℕ} (y : (⟨3, ![6, 256, n]⟩ : Shape).Idx), tOf y < Scf.trips k0_t1_loop.lb k0_t1_loop.ub k0_t1_loop.st := by
    intro n y
    have e : Scf.trips k0_t1_loop.lb k0_t1_loop.ub k0_t1_loop.st = 48 := trips_eq
    have h1 := (bOf y).isLt
    have h2 := (pOf y).isLt
    rw [e]; unfold tOf; omega
  have e9 := funext fun y => hL4.1 y (hlt y)
  have e11 := funext fun y => hL4.2 y (hlt y)
  iexists _; iexists _; iexists _; iexists _
  isplitl [H1]; · iexact H1
  isplitl [H2]; · iexact H2
  isplitl [H9]; · iexact H9
  isplitl [H10]; · iexact H10
  isplitl [H11]; · iexact H11
  isplitl [H12]; · iexact H12
  ipureintro
  exact ⟨e9, e11, (read_T10 arg10.view f10 arg11.view f11L1).trans (congrArg T10 e11), View.read_writes_full _ _ _ _ _⟩

/-- The last grid point: the scale lanes' transposed copy. -/
theorem last_run (𝒱 : Variants) (c : Dev nD) (bd : Option 𝒱.V) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (k0_h26 : k0_cond26 i = 1#1) (E : Set ℕ)
    (f8 : BufTy.Contents (Elt F) arg8.view.ty) (f12 : BufTy.Contents (Elt F) arg12.view.ty) :
    (iprop((arg8.view.loc (c : Thread nD τ) ↦[arg8.view.set]{fullShare} f8) ∗ (arg12.view.loc (c : Thread nD τ) ↦[arg12.view.set]{fullShare} f12)) : sProp 𝕄G) ⊢ wp frame (wpE (defs₀ (F := F)) 𝒱 (c : Thread nD τ) bd) E (lastPart (F := F) i arg1 harg1 arg2 harg2 arg3 harg3 arg4 harg4 arg5 harg5 arg6 harg6 arg7 harg7 arg8 harg8 arg9 harg9 arg10 harg10 arg11 harg11 arg12 harg12)
      (fun _ => iprop(∃ g8, (arg8.view.loc (c : Thread nD τ) ↦[arg8.view.set]{fullShare} g8) ∗ (arg12.view.loc (c : Thread nD τ) ↦[arg12.view.set]{fullShare} f12) ∗ ⌜arg8.view.read (Elt F) g8 = T8 (arg12.view.read (Elt F) f12)⌝)) := by
  unfold lastPart
  iintro ⟨H8, H12⟩
  sl_exec
  sl_step
  iexists _
  isplitl [H8]; · iexact H8
  isplitl [H12]; · iexact H12
  ipureintro
  exact read_T8 arg8.view f8 arg12.view f12

end Cert.KernelIdeal.Blk

end

end
-- ==== Proof.BodyRun.lean ====
module

public import proofs.«01_k».proof.Proof.Ends
public import Idealize.ShloMosaic.Lib.WritesUnit
public import Idealize.ShloMosaic.Lib.VecWindow
public import Idealize.ShloMosaic.Lib.Pointwise

/-! # What the kernel's body leaves at a grid point -/

@[expose] public section

set_option maxRecDepth 8192
set_option maxHeartbeats 400000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen

variable {F : FTy → Type} [FloatOps F]

local notation "𝕄G" => MT nD τ sig Unit (Elt F) ℕ (UR sig nD τ) ℕ

/-- What the blocks read at a grid point, from the windows. -/
abbrev inOf (arg1 : Memref sig .tc .smem S6 .i32) (arg2 : Memref sig .tc .vmem S6x256x1152 .bf16) (arg3 arg4 : Memref sig .tc .vmem S1152x256 .fp8e4m3) (arg5 arg6 : Memref sig .tc .vmem S1x256 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) : In F :=
  ⟨arg1.view.read (Elt F) X1, arg3.view.read (Elt F) X3, arg4.view.read (Elt F) X4, arg5.view.read (Elt F) X5, arg6.view.read (Elt F) X6,
    XC (arg1.view.read (Elt F) X1) (arg2.view.read (Elt F) X2), XS (arg1.view.read (Elt F) X1) (arg2.view.read (Elt F) X2)⟩

/-- The buffers after the first `n` blocks. -/
abbrev Mid (c : Dev nD) (first : Prop) (arg1 : Memref sig .tc .smem S6 .i32) (arg2 : Memref sig .tc .vmem S6x256x1152 .bf16) (arg3 : Memref sig .tc .vmem S1152x256 .fp8e4m3) (arg4 : Memref sig .tc .vmem S1152x256 .fp8e4m3) (arg5 : Memref sig .tc .vmem S1x256 .f32) (arg6 : Memref sig .tc .vmem S1x256 .f32) (arg7 : Memref sig .tc .vmem S6x256x256 .fp8e4m3) (arg8 : Memref sig .tc .vmem S6x54x256 .f32) (arg9 : Memref sig .tc .vmem S6x256x1152 .fp8e4m3) (arg10 : Memref sig .tc .vmem S6x1x256 .f32) (arg11 : Memref sig .tc .vmem S6x256x128 .f32) (arg12 : Memref sig .tc .vmem S6x256x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f10 : BufTy.Contents (Elt F) arg10.view.ty) (a0 : BitVec 32) (g : Vec F S6x256x128 .f32) (n : ℕ) : sProp 𝕄G :=
  iprop(∃ g7 g9 g10 g11 g12, (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} f8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
    ∗ ⌜arg9.view.read (Elt F) g9 = XC (arg1.view.read (Elt F) X1) (arg2.view.read (Elt F) X2)
      ∧ arg11.view.read (Elt F) g11 = XS (arg1.view.read (Elt F) X1) (arg2.view.read (Elt F) X2)
      ∧ (first → arg10.view.read (Elt F) g10 = T10 (XS (arg1.view.read (Elt F) X1) (arg2.view.read (Elt F) X2)))
      ∧ (¬ first → g10 = f10)
      ∧ Done arg7 arg12 (inOf arg1 arg2 arg3 arg4 arg5 arg6 X1 X2 X3 X4 X5 X6) a0 g n g7 g12⌝)

/-- The buffers after the body. -/
abbrev Post (c : Dev nD) (first last : Prop) (arg1 : Memref sig .tc .smem S6 .i32) (arg2 : Memref sig .tc .vmem S6x256x1152 .bf16) (arg3 : Memref sig .tc .vmem S1152x256 .fp8e4m3) (arg4 : Memref sig .tc .vmem S1152x256 .fp8e4m3) (arg5 : Memref sig .tc .vmem S1x256 .f32) (arg6 : Memref sig .tc .vmem S1x256 .f32) (arg7 : Memref sig .tc .vmem S6x256x256 .fp8e4m3) (arg8 : Memref sig .tc .vmem S6x54x256 .f32) (arg9 : Memref sig .tc .vmem S6x256x1152 .fp8e4m3) (arg10 : Memref sig .tc .vmem S6x1x256 .f32) (arg11 : Memref sig .tc .vmem S6x256x128 .f32) (arg12 : Memref sig .tc .vmem S6x256x128 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f10 : BufTy.Contents (Elt F) arg10.view.ty) (a0 : BitVec 32) (g : Vec F S6x256x128 .f32) : sProp 𝕄G :=
  iprop(∃ g7 g8 g9 g10 g11 g12, (arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} g7) ∗ (arg8.view.loc (c : Thread nD τ) ↦[arg8.view.set]{fullShare} g8) ∗ (arg9.view.loc (c : Thread nD τ) ↦[arg9.view.set]{fullShare} g9) ∗ (arg10.view.loc (c : Thread nD τ) ↦[arg10.view.set]{fullShare} g10) ∗ (arg11.view.loc (c : Thread nD τ) ↦[arg11.view.set]{fullShare} g11) ∗ (arg12.view.loc (c : Thread nD τ) ↦[arg12.view.set]{fullShare} g12)
    ∗ ⌜arg9.view.read (Elt F) g9 = XC (arg1.view.read (Elt F) X1) (arg2.view.read (Elt F) X2)
      ∧ arg11.view.read (Elt F) g11 = XS (arg1.view.read (Elt F) X1) (arg2.view.read (Elt F) X2)
      ∧ (first → arg10.view.read (Elt F) g10 = T10 (XS (arg1.view.read (Elt F) X1) (arg2.view.read (Elt F) X2)))
      ∧ (¬ first → g10 = f10)
      ∧ arg7.view.read (Elt F) g7 = (inOf arg1 arg2 arg3 arg4 arg5 arg6 X1 X2 X3 X4 X5 X6).H
      ∧ arg12.view.read (Elt F) g12 = (inOf arg1 arg2 arg3 arg4 arg5 arg6 X1 X2 X3 X4 X5 X6).step a0 g
      ∧ (last → arg8.view.read (Elt F) g8 = T8 ((inOf arg1 arg2 arg3 arg4 arg5 arg6 X1 X2 X3 X4 X5 X6).step a0 g))
      ∧ (¬ last → g8 = f8)⌝)

theorem kOf_lt {n : ℕ} (y : (⟨3, ![6, 256, n]⟩ : Shape).Idx) : kOf y < 12 := by
  have := (bOf y).isLt; have := (qOf y).isLt; unfold kOf; omega

/-- One block. -/
theorem blk_mid (𝒱 : Variants) (c : Dev nD) (bd : Option 𝒱.V) (first : Prop) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f10 : BufTy.Contents (Elt F) arg10.view.ty) (a0 : BitVec 32) (g : Vec F S6x256x128 .f32) (b : Fin 6) (q : Fin 2) (k k' : ℕ) (hk : k = 2 * b.val + q.val) (hk' : k' = k + 1) :
    Mid (F := F) c first arg1 arg2 arg3 arg4 arg5 arg6 arg7 arg8 arg9 arg10 arg11 arg12 X1 X2 X3 X4 X5 X6 f8 f10 a0 g k
      ⊢ wp frame (wpE (defs₀ (F := F)) 𝒱 (c : Thread nD τ) bd) E (blk (F := F) arg1 harg1 arg3 harg3 arg4 harg4 arg5 harg5 arg6 harg6 arg7 harg7 arg9 harg9 arg11 harg11 arg12 harg12 b.val (128 * q.val) (ev b q) a0)
          (fun _ => Mid (F := F) c first arg1 arg2 arg3 arg4 arg5 arg6 arg7 arg8 arg9 arg10 arg11 arg12 X1 X2 X3 X4 X5 X6 f8 f10 a0 g k') := by
  subst hk'; subst hk
  iintro ⟨%g7, %g9, %g10, %g11, %g12, H1, H2, H3, H4, H5, H6, H7, H8, H9, H10, H11, H12, %hh⟩
  obtain ⟨e9, e11, h10, h10', hd⟩ := hh
  have run := blk_run (F := F) 𝒱 c bd arg1 harg1 arg3 harg3 arg4 harg4 arg5 harg5 arg6 harg6 arg7 harg7 arg9 harg9 arg11 harg11 arg12 harg12 b.val (128 * q.val) (ev b q) a0 E X1 X3 X4 X5 X6 g7 g9 g11 g12
  have ex : rX arg9 g9 b.val (128 * q.val) (ev b q) = (inOf arg1 arg2 arg3 arg4 arg5 arg6 X1 X2 X3 X4 X5 X6).x (ev b q) :=
    congrArg (fun w : Vec F S6x256x1152 .fp8e4m3 => fun y => w ((Rect.unit (s := S6x256x1152) ![b.val, 128 * q.val, 0] S1x128x1152.size (ev b q).x).emb y)) e9
  have es : rS arg11 g11 b.val (128 * q.val) (ev b q) = (inOf arg1 arg2 arg3 arg4 arg5 arg6 X1 X2 X3 X4 X5 X6).s (ev b q) :=
    congrArg (fun w : Vec F S6x256x128 .f32 => fun y => w ((Rect.unit (s := S6x256x128) ![b.val, 128 * q.val, 0] S1x128x128.size (ev b q).s).emb y)) e11
  have e3 : rW arg3 X3 = arg3.view.read (Elt F) X3 := View.readAt_full _ _ _
  have e4 : rW arg4 X4 = arg4.view.read (Elt F) X4 := View.readAt_full _ _ _
  have e5 : rV arg5 X5 = arg5.view.read (Elt F) X5 := View.readAt_full _ _ _
  have e6 : rV arg6 X6 = arg6.view.read (Elt F) X6 := View.readAt_full _ _ _
  have el : rL arg1 X1 b.val (128 * q.val) (ev b q) = (inOf arg1 arg2 arg3 arg4 arg5 arg6 X1 X2 X3 X4 X5 X6).l (ev b q) := rfl
  rw [ex, es, e3, e4, e5, e6, el, part_read arg7 arg12 hd] at run
  iapply (wp_wand_r Idealize.ShloMosaic.frame (wpE (defs₀ (F := F)) 𝒱 (c : Thread nD τ) bd) E)
  isplitl [H1 H3 H4 H5 H6 H7 H9 H11 H12]
  · iapply run
    isplitl [H1]; · iexact H1
    isplitl [H3]; · iexact H3
    isplitl [H4]; · iexact H4
    isplitl [H5]; · iexact H5
    isplitl [H6]; · iexact H6
    isplitl [H9]; · iexact H9
    isplitl [H11]; · iexact H11
    isplitl [H7]; · iexact H7
    iexact H12
  · by_cases hl : Live ((inOf arg1 arg2 arg3 arg4 arg5 arg6 X1 X2 X3 X4 X5 X6).l (ev b q)) (128 * q.val)
    · simp only [if_pos hl]
      have hn := done_live arg7 arg12 hd hl
      unfold In.c0 In.c1 In.lanes at hn
      iintro %_ ⟨H1, H3, H4, H5, H6, H9, H11, H7, H12⟩
      iexists _; iexists _; iexists _; iexists _; iexists _
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      ipureintro
      exact ⟨e9, e11, h10, h10', hn _⟩
    · simp only [if_neg hl]
      have hn := done_dead arg7 arg12 hd hl
      iintro %_ ⟨H1, H3, H4, H5, H6, H9, H11, H7, H12⟩
      iexists _; iexists _; iexists _; iexists _; iexists _
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      ipureintro
      exact ⟨e9, e11, h10, h10', hn⟩

/-- One program after another. -/
theorem wp_seq (𝒱 : Variants) (c : Dev nD) (bd : Option 𝒱.V) (E : Set ℕ) {P Q R : sProp 𝕄G} {p p' : Prog (TpuEff nD τ sig (Elt F) Λ₀ .tc) PUnit}
    (h : P ⊢ wp frame (wpE (defs₀ (F := F)) 𝒱 (c : Thread nD τ) bd) E p (fun _ => Q)) (h' : Q ⊢ wp frame (wpE (defs₀ (F := F)) 𝒱 (c : Thread nD τ) bd) E p' (fun _ => R)) :
    P ⊢ wp frame (wpE (defs₀ (F := F)) 𝒱 (c : Thread nD τ) bd) E (p >>= fun _ => p') (fun _ => R) := by
  rw [wp_bind]
  exact h.trans (wp_mono _ _ _ fun _ => h')

/-- What precedes the blocks. -/
theorem first_mid (𝒱 : Variants) (c : Dev nD) (bd : Option 𝒱.V) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (a0 : BitVec 32) (g : Vec F S6x256x128 .f32)
    (h9 : ¬ k0_cond1 i = 1#1 → arg9.view.read (Elt F) f9 = XC (arg1.view.read (Elt F) X1) (arg2.view.read (Elt F) X2))
    (h11 : ¬ k0_cond1 i = 1#1 → arg11.view.read (Elt F) f11 = XS (arg1.view.read (Elt F) X1) (arg2.view.read (Elt F) X2))
    (hg : k0_cond1 i = 1#1 → g = k0_pay12) (hg' : ¬ k0_cond1 i = 1#1 → arg12.view.read (Elt F) f12 = g) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E (firstPart (F := F) i arg1 harg1 arg2 harg2 arg3 harg3 arg4 harg4 arg5 harg5 arg6 harg6 arg7 harg7 arg8 harg8 arg9 harg9 arg10 harg10 arg11 harg11 arg12 harg12)
      (fun _ => Mid (F := F) c (k0_cond1 i = 1#1) arg1 arg2 arg3 arg4 arg5 arg6 arg7 arg8 arg9 arg10 arg11 arg12 X1 X2 X3 X4 X5 X6 f8 f10 a0 g 0) := by
  iintro ⟨H1, H2, H3, H4, H5, H6, H7, H8, H9, H10, H11, H12⟩
  by_cases h : k0_cond1 i = 1#1
  · iapply (wp_wand_r Idealize.ShloMosaic.frame (wpE (defs₀ (F := F)) 𝒱 (c : Thread nD τ) bd) E)
    isplitl [H1 H2 H9 H10 H11 H12]
    · iapply (first_run (F := F) 𝒱 c bd i arg1 harg1 arg2 harg2 arg3 harg3 arg4 harg4 arg5 harg5 arg6 harg6 arg7 harg7 arg8 harg8 arg9 harg9 arg10 harg10 arg11 harg11 arg12 harg12 h E X1 X2 f9 f10 f11 f12)
      isplitl [H1]; · iexact H1
      isplitl [H2]; · iexact H2
      isplitl [H9]; · iexact H9
      isplitl [H10]; · iexact H10
      isplitl [H11]; · iexact H11
      iexact H12
    · iintro %_ ⟨%g9, %g10, %g11, %g12, H1, H2, H9, H10, H11, H12, %hh⟩
      obtain ⟨e9, e11, e10, e12⟩ := hh
      iexists _; iexists _; iexists _; iexists _; iexists _
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      ipureintro
      exact ⟨e9, e11, fun _ => e10, fun h' => absurd h h', fun y hy => absurd hy (Nat.not_lt_zero _), fun y => by rw [if_neg (Nat.not_lt_zero _), e12, hg h]⟩
  · have e : firstPart (F := F) i arg1 harg1 arg2 harg2 arg3 harg3 arg4 harg4 arg5 harg5 arg6 harg6 arg7 harg7 arg8 harg8 arg9 harg9 arg10 harg10 arg11 harg11 arg12 harg12 = pure ⟨⟩ := by unfold firstPart; exact dif_neg h
    rw [e]
    sl_step
    iexists _; iexists _; iexists _; iexists _; iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    exact ⟨h9 h, h11 h, fun h' => absurd h' h, fun _ => rfl, fun y hy => absurd hy (Nat.not_lt_zero _), fun y => by rw [if_neg (Nat.not_lt_zero _), hg' h]⟩

/-- What follows the blocks. -/
theorem last_mid (𝒱 : Variants) (c : Dev nD) (bd : Option 𝒱.V) (first : Prop) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f8 : BufTy.Contents (Elt F) arg8.view.ty) (f10 : BufTy.Contents (Elt F) arg10.view.ty) (a0 : BitVec 32) (g : Vec F S6x256x128 .f32) :
    Mid (F := F) c first arg1 arg2 arg3 arg4 arg5 arg6 arg7 arg8 arg9 arg10 arg11 arg12 X1 X2 X3 X4 X5 X6 f8 f10 a0 g 12
      ⊢ wp frame (wpE (defs₀ (F := F)) 𝒱 (c : Thread nD τ) bd) E (lastPart (F := F) i arg1 harg1 arg2 harg2 arg3 harg3 arg4 harg4 arg5 harg5 arg6 harg6 arg7 harg7 arg8 harg8 arg9 harg9 arg10 harg10 arg11 harg11 arg12 harg12)
      (fun _ => Post (F := F) c first (k0_cond26 i = 1#1) arg1 arg2 arg3 arg4 arg5 arg6 arg7 arg8 arg9 arg10 arg11 arg12 X1 X2 X3 X4 X5 X6 f8 f10 a0 g) := by
  iintro ⟨%g7, %g9, %g10, %g11, %g12, H1, H2, H3, H4, H5, H6, H7, H8, H9, H10, H11, H12, %hh⟩
  obtain ⟨e9, e11, h10, h10', hd⟩ := hh
  have e7 : arg7.view.read (Elt F) g7 = (inOf arg1 arg2 arg3 arg4 arg5 arg6 X1 X2 X3 X4 X5 X6).H := funext fun y => hd.1 y (kOf_lt y)
  have e12 : arg12.view.read (Elt F) g12 = (inOf arg1 arg2 arg3 arg4 arg5 arg6 X1 X2 X3 X4 X5 X6).step a0 g := funext fun y => (hd.2 y).trans (if_pos (kOf_lt y))
  by_cases h : k0_cond26 i = 1#1
  · iapply (wp_wand_r Idealize.ShloMosaic.frame (wpE (defs₀ (F := F)) 𝒱 (c : Thread nD τ) bd) E)
    isplitl [H8 H12]
    · iapply (last_run (F := F) 𝒱 c bd i arg1 harg1 arg2 harg2 arg3 harg3 arg4 harg4 arg5 harg5 arg6 harg6 arg7 harg7 arg8 harg8 arg9 harg9 arg10 harg10 arg11 harg11 arg12 harg12 h E f8 g12)
      isplitl [H8]; · iexact H8
      iexact H12
    · iintro %_ ⟨%g8, H8, H12, %e8⟩
      iexists _; iexists _; iexists _; iexists _; iexists _; iexists _
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [H10]; · iexact H10
      isplitl [H11]; · iexact H11
      isplitl [H12]; · iexact H12
      ipureintro
      exact ⟨e9, e11, h10, h10', e7, e12, fun _ => e8.trans (congrArg T8 e12), fun h' => absurd h h'⟩
  · have e : lastPart (F := F) i arg1 harg1 arg2 harg2 arg3 harg3 arg4 harg4 arg5 harg5 arg6 harg6 arg7 harg7 arg8 harg8 arg9 harg9 arg10 harg10 arg11 harg11 arg12 harg12 = pure ⟨⟩ := by unfold lastPart; exact dif_neg h
    rw [e]
    sl_step
    iexists _; iexists _; iexists _; iexists _; iexists _; iexists _
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    isplitl [H12]; · iexact H12
    ipureintro
    exact ⟨e9, e11, h10, h10', e7, e12, fun h' => absurd h' h, fun _ => rfl⟩

/-- The body at a grid point. -/
theorem body_run (𝒱 : Variants) (c : Dev nD) (bd : Option 𝒱.V) (i : grid0.Coords) (arg1 : Memref sig .tc .smem S6 .i32) (harg1 : arg1.IsWhole) (arg2 : Memref sig .tc .vmem S6x256x1152 .bf16) (harg2 : arg2.IsWhole) (arg3 : Memref sig .tc .vmem S1152x256 .fp8e4m3) (harg3 : arg3.IsWhole) (arg4 : Memref sig .tc .vmem S1152x256 .fp8e4m3) (harg4 : arg4.IsWhole) (arg5 : Memref sig .tc .vmem S1x256 .f32) (harg5 : arg5.IsWhole) (arg6 : Memref sig .tc .vmem S1x256 .f32) (harg6 : arg6.IsWhole) (arg7 : Memref sig .tc .vmem S6x256x256 .fp8e4m3) (harg7 : arg7.IsWhole) (arg8 : Memref sig .tc .vmem S6x54x256 .f32) (harg8 : arg8.IsWhole) (arg9 : Memref sig .tc .vmem S6x256x1152 .fp8e4m3) (harg9 : arg9.IsWhole) (arg10 : Memref sig .tc .vmem S6x1x256 .f32) (harg10 : arg10.IsWhole) (arg11 : Memref sig .tc .vmem S6x256x128 .f32) (harg11 : arg11.IsWhole) (arg12 : Memref sig .tc .vmem S6x256x128 .f32) (harg12 : arg12.IsWhole) (E : Set ℕ) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty) (f7 : BufTy.Contents (Elt F) arg7.view.ty) (f8 : BufTy.Contents (Elt F) arg8.view.ty) (f9 : BufTy.Contents (Elt F) arg9.view.ty) (f10 : BufTy.Contents (Elt F) arg10.view.ty) (f11 : BufTy.Contents (Elt F) arg11.view.ty) (f12 : BufTy.Contents (Elt F) arg12.view.ty) (g : Vec F S6x256x128 .f32)
    (h9 : ¬ k0_cond1 i = 1#1 → arg9.view.read (Elt F) f9 = XC (arg1.view.read (Elt F) X1) (arg2.view.read (Elt F) X2))
    (h11 : ¬ k0_cond1 i = 1#1 → arg11.view.read (Elt F) f11 = XS (arg1.view.read (Elt F) X1) (arg2.view.read (Elt F) X2))
    (hg : k0_cond1 i = 1#1 → g = k0_pay12) (hg' : ¬ k0_cond1 i = 1#1 → arg12.view.read (Elt F) f12 = g) :
    (iprop((arg1.view.loc (c : Thread nD τ) ↦[arg1.view.set]{fullShare} X1) ∗ (arg2.view.loc (c : Thread nD τ) ↦[arg2.view.set]{fullShare} X2) ∗ (arg3.view.loc (c : Thread nD τ) ↦[arg3.view.set]{fullShare} X3) ∗ (arg4.view.loc (c : Thread nD τ) ↦[arg4.view.set]{fullShare} X4) ∗ (arg5.view.loc (c : Thread nD τ) ↦[arg5.view.set]{fullShare} X5) ∗ (arg6.view.loc (c : Thread nD τ) ↦[arg6.view.set]{fullShare} X6) ∗ (arg7.view.loc (c : Thread nD τ) ↦[arg7.view.set]{fullShare} f7) ∗ (arg8.view.loc (c : Thread nD τ) ↦[arg8.view.set]{fullShare} f8) ∗ (arg9.view.loc (c : Thread nD τ) ↦[arg9.view.set]{fullShare} f9) ∗ (arg10.view.loc (c : Thread nD τ) ↦[arg10.view.set]{fullShare} f10) ∗ (arg11.view.loc (c : Thread nD τ) ↦[arg11.view.set]{fullShare} f11) ∗ (arg12.view.loc (c : Thread nD τ) ↦[arg12.view.set]{fullShare} f12)) : sProp 𝕄G) ⊢ wp frame (wpE (defs₀ (F := F)) 𝒱 (c : Thread nD τ) bd) E (cc0_geglu_gate_up (F := F) i arg1 harg1 arg2 harg2 arg3 harg3 arg4 harg4 arg5 harg5 arg6 harg6 arg7 harg7 arg8 harg8 arg9 harg9 arg10 harg10 arg11 harg11 arg12 harg12)
      (fun _ => Post (F := F) c (k0_cond1 i = 1#1) (k0_cond26 i = 1#1) arg1 arg2 arg3 arg4 arg5 arg6 arg7 arg8 arg9 arg10 arg11 arg12 X1 X2 X3 X4 X5 X6 f8 f10 (BitVec.ofNat 32 (i 0).val) g) := by
  rw [body_eq]
  have hb := fun b q k k' => blk_mid (F := F) 𝒱 c bd (k0_cond1 i = 1#1) arg1 harg1 arg2 harg2 arg3 harg3 arg4 harg4 arg5 harg5 arg6 harg6 arg7 harg7 arg8 harg8 arg9 harg9 arg10 harg10 arg11 harg11 arg12 harg12 E X1 X2 X3 X4 X5 X6 f8 f10 (BitVec.ofNat 32 (i 0).val) g b q k k'
  unfold pieces
  refine wp_seq 𝒱 c bd E (first_mid (F := F) 𝒱 c bd i arg1 harg1 arg2 harg2 arg3 harg3 arg4 harg4 arg5 harg5 arg6 harg6 arg7 harg7 arg8 harg8 arg9 harg9 arg10 harg10 arg11 harg11 arg12 harg12 E X1 X2 X3 X4 X5 X6 f7 f8 f9 f10 f11 f12 (BitVec.ofNat 32 (i 0).val) g h9 h11 hg hg') ?_
  refine wp_seq 𝒱 c bd E (hb 0 0 0 1 rfl rfl) ?_
  refine wp_seq 𝒱 c bd E (hb 0 1 1 2 rfl rfl) ?_
  refine wp_seq 𝒱 c bd E (hb 1 0 2 3 rfl rfl) ?_
  refine wp_seq 𝒱 c bd E (hb 1 1 3 4 rfl rfl) ?_
  refine wp_seq 𝒱 c bd E (hb 2 0 4 5 rfl rfl) ?_
  refine wp_seq 𝒱 c bd E (hb 2 1 5 6 rfl rfl) ?_
  refine wp_seq 𝒱 c bd E (hb 3 0 6 7 rfl rfl) ?_
  refine wp_seq 𝒱 c bd E (hb 3 1 7 8 rfl rfl) ?_
  refine wp_seq 𝒱 c bd E (hb 4 0 8 9 rfl rfl) ?_
  refine wp_seq 𝒱 c bd E (hb 4 1 9 10 rfl rfl) ?_
  refine wp_seq 𝒱 c bd E (hb 5 0 10 11 rfl rfl) ?_
  refine wp_seq 𝒱 c bd E (hb 5 1 11 12 rfl rfl) ?_
  refine wp_seq 𝒱 c bd E (last_mid (F := F) 𝒱 c bd (k0_cond1 i = 1#1) i arg1 harg1 arg2 harg2 arg3 harg3 arg4 harg4 arg5 harg5 arg6 harg6 arg7 harg7 arg8 harg8 arg9 harg9 arg10 harg10 arg11 harg11 arg12 harg12 E X1 X2 X3 X4 X5 X6 f8 f10 (BitVec.ofNat 32 (i 0).val) g) ?_
  iintro H
  sl_step
  iexact H

end Cert.KernelIdeal.Blk

end

end
-- ==== Proof.RunMain.lean ====
module

public import proofs.«01_k».proof.Proof.BodyRun
public import proofs.«01_k».proof.Proof.Gen.KernelIdeal.Frame
public import Idealize.ShloMosaic.Lib.Pipeline.TableIdle
public import Idealize.ShloMosaic.Lib.WritesUnit
public import Idealize.ShloMosaic.Lib.VecWindow
public import Idealize.ShloMosaic.Lib.Pointwise

/-! # The kernel's run over its grid -/

@[expose] public section

set_option maxRecDepth 8192
set_option maxHeartbeats 400000

noncomputable section

namespace Cert.KernelIdeal.Blk

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Cert.KernelIdeal.Gen
open Idealize.ShloMosaic.Pipeline (Dat Cfg Window BodyObligation cellOf)

variable {F : FTy → Type} [FloatOps F]

local notation "𝕄G" => MT nD τ sig Unit (Elt F) ℕ (UR sig nD τ) ℕ

variable (m : (ℓ : Loc nD τ sig) → Buf (Elt F) ℓ) (ρ : Dev nD → PrngReg)

/-- The first grid point. -/
abbrev t0 : Fin cfg0.N := ⟨0, by have e : cfg0.N = 27 := N_0; omega⟩
/-- The lengths and the rows `x` as the region finds them. -/
abbrev L0 (c : Dev nD) : Vec F S6 .i32 := iblk m c 0 t0
abbrev X0 (c : Dev nD) : Vec F S6x256x1152 .bf16 := iblk m c 1 t0
/-- What the blocks read at point `t`. -/
def inAt (c : Dev nD) (t : Fin cfg0.N) : In F :=
  ⟨L0 m c, iblk m c 2 t, iblk m c 3 t, iblk m c 4 t, iblk m c 5 t, XC (L0 m c) (X0 m c), XS (L0 m c) (X0 m c)⟩
/-- The lane scales before point `n`. -/
def HS (c : Dev nD) : ℕ → Vec F S6x256x128 .f32
  | 0 => k0_pay12
  | n + 1 => if h : n < cfg0.N then (inAt m c ⟨n, h⟩).step (BitVec.ofNat 32 n) (HS c n) else HS c n

theorem HS_succ (c : Dev nD) (t : Fin cfg0.N) : HS m c (t.val + 1) = (inAt m c t).step (BitVec.ofNat 32 t.val) (HS m c t.val) := by
  conv_lhs => unfold HS
  exact dif_pos t.isLt

theorem iblk0_const (c : Dev nD) (t : Fin cfg0.N) : iblk m c 0 t = L0 m c := rfl
theorem iblk1_const (c : Dev nD) (t : Fin cfg0.N) : iblk m c 1 t = X0 m c := rfl

/-! ## The grid's decided facts -/

theorem first_iff : ∀ t : Fin cfg0.N, k0_cond1 (grid0.coords t) = 1#1 ↔ t.val = 0 :=
  (by decide +kernel : ∀ t : Fin grid0.N, k0_cond1 (grid0.coords t) = 1#1 ↔ t.val = 0)
theorem last_iff : ∀ t : Fin cfg0.N, k0_cond26 (grid0.coords t) = 1#1 ↔ t.val = 26 :=
  (by decide +kernel : ∀ t : Fin grid0.N, k0_cond26 (grid0.coords t) = 1#1 ↔ t.val = 26)
theorem coords_val : ∀ t : Fin cfg0.N, (grid0.coords t 0).val = t.val :=
  (by decide +kernel : ∀ t : Fin grid0.N, (grid0.coords t 0).val = t.val)
theorem val_lt (t : Fin cfg0.N) : t.val < 27 := by have := t.isLt; have e : cfg0.N = 27 := N_0; omega

theorem idle7 (t : Fin cfg0.N) : cfg0.idle 7 (cfg0.grid.coords t) = !(k0_cond26 (grid0.coords t) == 1#1) := rfl
theorem idle8 (t : Fin cfg0.N) : cfg0.idle 8 (cfg0.grid.coords t) = !(k0_cond1 (grid0.coords t) == 1#1) := rfl
theorem idle9 (t : Fin cfg0.N) : cfg0.idle 9 (cfg0.grid.coords t) = !(k0_cond1 (grid0.coords t) == 1#1) := rfl

theorem fresh_out (w : Fin cfg0.W) (hi : ∀ t : Fin cfg0.N, cfg0.idle w (cfg0.grid.coords t) = !(k0_cond1 (grid0.coords t) == 1#1))
    (hf : ∀ t : Fin cfg0.N, (cfg0.win w).flush t = true ↔ t.val % 27 = 26) : ∀ n : ℕ, n < 26 → cfg0.fresh w (n + 1) = false := by
  intro n
  induction n with
  | zero =>
    intro hn
    have hN : 0 < cfg0.N := by have e : cfg0.N = 27 := N_0; omega
    have h1 : (cfg0.win w).flush ⟨0, hN⟩ = false := by
      rw [Bool.eq_false_iff]; intro h; have := (hf ⟨0, hN⟩).mp h; simp only at this; omega
    unfold Cfg.fresh
    rw [dif_pos hN, h1, hi, (first_iff ⟨0, hN⟩).mpr rfl]; rfl
  | succ n ih =>
    intro hn
    have hN : n + 1 < cfg0.N := by have e : cfg0.N = 27 := N_0; omega
    have h1 : (cfg0.win w).flush ⟨n + 1, hN⟩ = false := by
      rw [Bool.eq_false_iff]; intro h; have := (hf ⟨n + 1, hN⟩).mp h; simp only at this; omega
    unfold Cfg.fresh
    rw [dif_pos hN, h1, ih (by omega), Bool.and_false]; rfl

/-! ## The proof data -/

abbrev pt11 (c : Dev nD) (f : Vec F S6x256x128 .f32) : sProp 𝕄G :=
  (Memref.whole cc0_scratch0).view.loc (c : Thread nD τ) ↦[(Memref.whole cc0_scratch0).view.set]{fullShare} f
abbrev pt12 (c : Dev nD) (f : Vec F S6x256x128 .f32) : sProp 𝕄G :=
  (Memref.whole cc0_scratch1).view.loc (c : Thread nD τ) ↦[(Memref.whole cc0_scratch1).view.set]{fullShare} f

/-- Before point `n`: the two scratch buffers, named once the first point has run. -/
def Phi (c : Dev nD) (n : ℕ) : sProp 𝕄G :=
  iprop((∃ f, ⌜n ≠ 0 → f = XS (L0 m c) (X0 m c)⌝ ∗ pt11 c f) ∗ (∃ f, ⌜n ≠ 0 → f = HS m c n⌝ ∗ pt12 c f) ∗ (∃ r, prngReg c r))

def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => iblk m c 5 t
    | ⟨6, _⟩ => (inAt m c t).H
    | ⟨7, _⟩ => T8 (HS m c 27)
    | ⟨8, _⟩ => XC (L0 m c) (X0 m c)
    | ⟨9, _⟩ => T10 (XS (L0 m c) (X0 m c))
    | ⟨_ + 10, h⟩ => absurd h (Nat.not_lt.2 (Nat.le_add_left _ _))
  Φ t := Phi m c t.val
  q w := Pipeline.shareOf spec0 w
  owed _ := 0

theorem A_eq (c : Dev nD) (w : Fin cfg0.W) : (dats m 0 c).A w = V m c (Pipeline.arrRef spec0 w) := by
  dsimp only [dats]
theorem before0_0 (c : Dev nD) (t : Fin cfg0.N) (d) : (dats m 0 c).before 0 t d = iblk m c 0 t :=
  before0_0_of m (dats m 0 c) (A_eq m c 0) (fun _ => rfl) t d
theorem before0_1 (c : Dev nD) (t : Fin cfg0.N) (d) : (dats m 0 c).before 1 t d = iblk m c 1 t :=
  before0_1_of m (dats m 0 c) (A_eq m c 1) (fun _ => rfl) t d
theorem before0_2 (c : Dev nD) (t : Fin cfg0.N) (d) : (dats m 0 c).before 2 t d = iblk m c 2 t :=
  before0_2_of m (dats m 0 c) (A_eq m c 2) (fun _ => rfl) t d
theorem before0_3 (c : Dev nD) (t : Fin cfg0.N) (d) : (dats m 0 c).before 3 t d = iblk m c 3 t :=
  before0_3_of m (dats m 0 c) (A_eq m c 3) (fun _ => rfl) t d
theorem before0_4 (c : Dev nD) (t : Fin cfg0.N) (d) : (dats m 0 c).before 4 t d = iblk m c 4 t :=
  before0_4_of m (dats m 0 c) (A_eq m c 4) (fun _ => rfl) t d
theorem before0_5 (c : Dev nD) (t : Fin cfg0.N) (d) : (dats m 0 c).before 5 t d = iblk m c 5 t :=
  before0_5_of m (dats m 0 c) (A_eq m c 5) (fun _ => rfl) t d

/-- The first point's stores into windows 8 and 9 stay. -/
theorem before0_8 (c : Dev nD) (t : Fin cfg0.N) (h : t.val ≠ 0) (d) : (dats m 0 c).before 8 t d = XC (L0 m c) (X0 m c) := by
  obtain ⟨n, hn⟩ : ∃ n, t.val = n + 1 := ⟨t.val - 1, by omega⟩
  have hv := val_lt t
  have hr : cfg0.fresh 8 t.val = false := by rw [hn]; exact fresh_out 8 idle8 flush0_8 n (by omega)
  rw [(dats m 0 c).before_out_traj 8 rfl (fun _ _ => rfl) (fun _ _ _ _ => rfl) t.val t rfl d, hr]; rfl
theorem before0_9 (c : Dev nD) (t : Fin cfg0.N) (h : t.val ≠ 0) (d) : (dats m 0 c).before 9 t d = T10 (XS (L0 m c) (X0 m c)) := by
  obtain ⟨n, hn⟩ : ∃ n, t.val = n + 1 := ⟨t.val - 1, by omega⟩
  have hv := val_lt t
  have hr : cfg0.fresh 9 t.val = false := by rw [hn]; exact fresh_out 9 idle9 flush0_9 n (by omega)
  rw [(dats m 0 c).before_out_traj 9 rfl (fun _ _ => rfl) (fun _ _ _ _ => rfl) t.val t rfl d, hr]; rfl

/-- What the obligation asks of a window the body stores into under a condition. -/
def leave (c : Dev nD) (w : Fin cfg0.W) (t : Fin cfg0.N) : sProp 𝕄G :=
  match cfg0.idle w (cfg0.grid.coords t) with
  | true =>
    match (cfg0.win w).flush t with
    | false => iprop(∃ d, owns (c : Thread nD τ) ((cfg0.win w).stage (cfg0.slots t w)) fullShare ((dats m 0 c).before w t d))
    | true => owns (c : Thread nD τ) ((cfg0.win w).stage (cfg0.slots t w)) fullShare ((dats m 0 c).after w t)
  | false => owns (c : Thread nD τ) ((cfg0.win w).stage (cfg0.slots t w)) fullShare ((dats m 0 c).after w t)

theorem leave_after (c : Dev nD) (w : Fin cfg0.W) (t : Fin cfg0.N)
    (h : cfg0.idle w (cfg0.grid.coords t) = true → ∀ d, (dats m 0 c).before w t d = (dats m 0 c).after w t) :
    owns (c : Thread nD τ) ((cfg0.win w).stage (cfg0.slots t w)) fullShare ((dats m 0 c).after w t) ⊢ leave m c w t := by
  unfold leave
  split
  · next hi =>
    split
    · iintro H; iexists (dats m 0 c).after w t; rw [h hi]; iexact H
    · exact .rfl
  · exact .rfl

theorem leave_before (c : Dev nD) (w : Fin cfg0.W) (t : Fin cfg0.N) (hi : cfg0.idle w (cfg0.grid.coords t) = true) (hf : (cfg0.win w).flush t = false) (d) :
    owns (c : Thread nD τ) ((cfg0.win w).stage (cfg0.slots t w)) fullShare ((dats m 0 c).before w t d) ⊢ leave m c w t := by
  unfold leave
  rw [hi, hf]
  iintro H; iexists d; iexact H

theorem after0_9 (c : Dev nD) (t : Fin cfg0.N) : (dats m 0 c).after 9 t = T10 (XS (L0 m c) (X0 m c)) := by dsimp only [dats]
theorem after0_7 (c : Dev nD) (t : Fin cfg0.N) : (dats m 0 c).after 7 t = T8 (HS m c 27) := by dsimp only [dats]

/-! ## The body obligation -/

def bodyPre (c : Dev nD) (t : Fin cfg0.N) : sProp 𝕄G :=
  iprop((dats m 0 c).Φ t.castSucc ∗ (dats m 0 c).owesAt () t.castSucc
    ∗ (∃ d, owns (c : Thread nD τ) (win0_0.stage (cfg0.slots t 0)) fullShare ((dats m 0 c).before 0 t d))
    ∗ (∃ d, owns (c : Thread nD τ) (win0_1.stage (cfg0.slots t 1)) fullShare ((dats m 0 c).before 1 t d))
    ∗ (∃ d, owns (c : Thread nD τ) (win0_2.stage (cfg0.slots t 2)) fullShare ((dats m 0 c).before 2 t d))
    ∗ (∃ d, owns (c : Thread nD τ) (win0_3.stage (cfg0.slots t 3)) fullShare ((dats m 0 c).before 3 t d))
    ∗ (∃ d, owns (c : Thread nD τ) (win0_4.stage (cfg0.slots t 4)) fullShare ((dats m 0 c).before 4 t d))
    ∗ (∃ d, owns (c : Thread nD τ) (win0_5.stage (cfg0.slots t 5)) fullShare ((dats m 0 c).before 5 t d))
    ∗ (∃ d, owns (c : Thread nD τ) (win0_6.stage (cfg0.slots t 6)) fullShare ((dats m 0 c).before 6 t d))
    ∗ (∃ d, owns (c : Thread nD τ) (win0_7.stage (cfg0.slots t 7)) fullShare ((dats m 0 c).before 7 t d))
    ∗ (∃ d, owns (c : Thread nD τ) (win0_8.stage (cfg0.slots t 8)) fullShare ((dats m 0 c).before 8 t d))
    ∗ (∃ d, owns (c : Thread nD τ) (win0_9.stage (cfg0.slots t 9)) fullShare ((dats m 0 c).before 9 t d)))
def bodyPost (c : Dev nD) (t : Fin cfg0.N) : sProp 𝕄G :=
  iprop((dats m 0 c).Φ t.succ ∗ (dats m 0 c).owesAt () t.succ
    ∗ owns (c : Thread nD τ) (win0_0.stage (cfg0.slots t 0)) fullShare ((dats m 0 c).after 0 t)
    ∗ owns (c : Thread nD τ) (win0_1.stage (cfg0.slots t 1)) fullShare ((dats m 0 c).after 1 t)
    ∗ owns (c : Thread nD τ) (win0_2.stage (cfg0.slots t 2)) fullShare ((dats m 0 c).after 2 t)
    ∗ owns (c : Thread nD τ) (win0_3.stage (cfg0.slots t 3)) fullShare ((dats m 0 c).after 3 t)
    ∗ owns (c : Thread nD τ) (win0_4.stage (cfg0.slots t 4)) fullShare ((dats m 0 c).after 4 t)
    ∗ owns (c : Thread nD τ) (win0_5.stage (cfg0.slots t 5)) fullShare ((dats m 0 c).after 5 t)
    ∗ owns (c : Thread nD τ) (win0_6.stage (cfg0.slots t 6)) fullShare ((dats m 0 c).after 6 t)
    ∗ leave m c 7 t
    ∗ leave m c 8 t
    ∗ leave m c 9 t)

theorem inOf_eq (arg1 : Memref sig .tc .smem S6 .i32) (arg2 : Memref sig .tc .vmem S6x256x1152 .bf16) (arg3 arg4 : Memref sig .tc .vmem S1152x256 .fp8e4m3) (arg5 arg6 : Memref sig .tc .vmem S1x256 .f32) (X1 : BufTy.Contents (Elt F) arg1.view.ty) (X2 : BufTy.Contents (Elt F) arg2.view.ty) (X3 : BufTy.Contents (Elt F) arg3.view.ty) (X4 : BufTy.Contents (Elt F) arg4.view.ty) (X5 : BufTy.Contents (Elt F) arg5.view.ty) (X6 : BufTy.Contents (Elt F) arg6.view.ty)
    (a : Vec F S6 .i32) (b : Vec F S6x256x1152 .bf16) (w1 w2 : Vec F S1152x256 .fp8e4m3) (s1 s2 : Vec F S1x256 .f32)
    (h1 : arg1.view.read (Elt F) X1 = a) (h2 : arg2.view.read (Elt F) X2 = b) (h3 : arg3.view.read (Elt F) X3 = w1) (h4 : arg4.view.read (Elt F) X4 = w2) (h5 : arg5.view.read (Elt F) X5 = s1) (h6 : arg6.view.read (Elt F) X6 = s2) :
    inOf arg1 arg2 arg3 arg4 arg5 arg6 X1 X2 X3 X4 X5 X6 = ⟨a, w1, w2, s1, s2, XC a b, XS a b⟩ := by
  subst h1 h2 h3 h4 h5 h6; rfl

theorem owns_intro (c : Dev nD) {sp : Space} {sh : Shape} {e : EltTy} (M : Memref sig .tc sp sh e) (f : BufTy.Contents (Elt F) M.view.ty) (X : sh.Idx → Elt F e) (h : M.view.read (Elt F) f = X) :
    (M.view.loc (c : Thread nD τ) ↦[M.view.set]{fullShare} f) ⊢ (owns (c : Thread nD τ) M fullShare X : sProp 𝕄G) := by
  unfold owns
  iintro H; iexists f; isplitr; · ipureintro; exact h
  iexact H

theorem owns_elim (c : Dev nD) {sp : Space} {sh : Shape} {e : EltTy} (M : Memref sig .tc sp sh e) (X : sh.Idx → Elt F e) :
    (owns (c : Thread nD τ) M fullShare X : sProp 𝕄G) ⊢ iprop(∃ f : BufTy.Contents (Elt F) M.view.ty, ⌜M.view.read (Elt F) f = X⌝ ∗ (M.view.loc (c : Thread nD τ) ↦[M.view.set]{fullShare} f)) := by
  unfold owns; exact .rfl

/-- Window 7's buffer after the body: stored at the last point, as found at the others. -/
theorem out7 (c : Dev nD) (t : Fin cfg0.N) (d) (f g : BufTy.Contents (Elt F) (win0_7.stage (cfg0.slots t 7)).view.ty) (e : (win0_7.stage (cfg0.slots t 7)).view.read (Elt F) f = (dats m 0 c).before 7 t d)
    (k : k0_cond26 (grid0.coords t) = 1#1 → (win0_7.stage (cfg0.slots t 7)).view.read (Elt F) g = T8 (HS m c (t.val + 1))) (k' : ¬ k0_cond26 (grid0.coords t) = 1#1 → g = f) :
    ((win0_7.stage (cfg0.slots t 7)).view.loc (c : Thread nD τ) ↦[(win0_7.stage (cfg0.slots t 7)).view.set]{fullShare} g) ⊢ leave m c 7 t := by
  have hl := last_iff t
  by_cases h : t.val = 26
  · exact (owns_intro c (win0_7.stage (cfg0.slots t 7)) g ((dats m 0 c).after 7 t) ((k (hl.mpr h)).trans (congrArg (fun n => T8 (HS m c n)) (by omega : t.val + 1 = 27)))).trans
      (leave_after m c 7 t (fun hi => by rw [idle7, hl.mpr h] at hi; exact absurd hi (by decide)))
  · have hv := val_lt t
    exact (owns_intro c (win0_7.stage (cfg0.slots t 7)) g ((dats m 0 c).before 7 t d) (by rw [k' (mt hl.mp h)]; exact e)).trans
      (leave_before m c 7 t (by rw [idle7]; simp [mt hl.mp h]) (by rw [Bool.eq_false_iff]; intro h'; have := (flush0_7 t).mp h'; omega) d)

/-- Window 8's, whose contents every point finds or leaves. -/
theorem out8 (c : Dev nD) (t : Fin cfg0.N) (g : BufTy.Contents (Elt F) (win0_8.stage (cfg0.slots t 8)).view.ty) (k : (win0_8.stage (cfg0.slots t 8)).view.read (Elt F) g = XC (L0 m c) (X0 m c)) :
    ((win0_8.stage (cfg0.slots t 8)).view.loc (c : Thread nD τ) ↦[(win0_8.stage (cfg0.slots t 8)).view.set]{fullShare} g) ⊢ leave m c 8 t :=
  (owns_intro c (win0_8.stage (cfg0.slots t 8)) g ((dats m 0 c).after 8 t) k).trans
    (leave_after m c 8 t (fun hi d => before0_8 m c t (fun h => by rw [idle8, (first_iff t).mpr h] at hi; exact absurd hi (by decide)) d))

/-- Window 9's, stored at the first point. -/
theorem out9 (c : Dev nD) (t : Fin cfg0.N) (d) (f g : BufTy.Contents (Elt F) (win0_9.stage (cfg0.slots t 9)).view.ty) (e : (win0_9.stage (cfg0.slots t 9)).view.read (Elt F) f = (dats m 0 c).before 9 t d)
    (k : k0_cond1 (grid0.coords t) = 1#1 → (win0_9.stage (cfg0.slots t 9)).view.read (Elt F) g = T10 (XS (L0 m c) (X0 m c))) (k' : ¬ k0_cond1 (grid0.coords t) = 1#1 → g = f) :
    ((win0_9.stage (cfg0.slots t 9)).view.loc (c : Thread nD τ) ↦[(win0_9.stage (cfg0.slots t 9)).view.set]{fullShare} g) ⊢ leave m c 9 t := by
  have hf := first_iff t
  by_cases h : t.val = 0
  · exact (owns_intro c (win0_9.stage (cfg0.slots t 9)) g ((dats m 0 c).after 9 t) ((k (hf.mpr h)).trans (after0_9 m c t).symm)).trans
      (leave_after m c 9 t (fun hi => by rw [idle9, hf.mpr h] at hi; exact absurd hi (by decide)))
  · have hg := k' (mt hf.mp h)
    subst hg
    rw [before0_9 m c t h d] at e
    exact (owns_intro c (win0_9.stage (cfg0.slots t 9)) g ((dats m 0 c).after 9 t) (e.trans (after0_9 m c t).symm)).trans
      (leave_after m c 9 t (fun _ d' => (before0_9 m c t h d').trans (after0_9 m c t).symm))

set_option maxHeartbeats 1600000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  rw [show (dats m 0 c).Φ t.castSucc = Phi m c t.val from rfl, show (dats m 0 c).Φ t.succ = Phi m c (t.val + 1) from rfl]
  simp only [before0_0, before0_1, before0_2, before0_3, before0_4, before0_5]
  unfold Phi
  unfold Dat.owesAt Pipeline.owesWithin
  rw [show (dats m 0 c).owed t.castSucc = 0 from rfl, show (dats m 0 c).owed t.succ = 0 from rfl]
  iintro ⟨⟨⟨%f11, %h11, H11⟩, ⟨%f12, %h12, H12⟩, Hg⟩, ⟨%W, -, HW⟩, ⟨%d0, H1⟩, ⟨%d1, H2⟩, ⟨%d2, H3⟩, ⟨%d3, H4⟩, ⟨%d4, H5⟩, ⟨%d5, H6⟩, ⟨%d6, H7⟩, ⟨%d7, H8⟩, ⟨%d8, H9⟩, ⟨%d9, H10⟩⟩
  icases (owns_elim c (win0_0.stage (cfg0.slots t 0)) _) $$ H1 with ⟨%f1, %e1, H1⟩
  icases (owns_elim c (win0_1.stage (cfg0.slots t 1)) _) $$ H2 with ⟨%f2, %e2, H2⟩
  icases (owns_elim c (win0_2.stage (cfg0.slots t 2)) _) $$ H3 with ⟨%f3, %e3, H3⟩
  icases (owns_elim c (win0_3.stage (cfg0.slots t 3)) _) $$ H4 with ⟨%f4, %e4, H4⟩
  icases (owns_elim c (win0_4.stage (cfg0.slots t 4)) _) $$ H5 with ⟨%f5, %e5, H5⟩
  icases (owns_elim c (win0_5.stage (cfg0.slots t 5)) _) $$ H6 with ⟨%f6, %e6, H6⟩
  icases (owns_elim c (win0_6.stage (cfg0.slots t 6)) _) $$ H7 with ⟨%f7, %e7, H7⟩
  icases (owns_elim c (win0_7.stage (cfg0.slots t 7)) _) $$ H8 with ⟨%f8, %e8, H8⟩
  icases (owns_elim c (win0_8.stage (cfg0.slots t 8)) _) $$ H9 with ⟨%f9, %e9, H9⟩
  icases (owns_elim c (win0_9.stage (cfg0.slots t 9)) _) $$ H10 with ⟨%f10, %e10, H10⟩
  have hf := first_iff t
  have hl := last_iff t
  have hv := val_lt t
  have eD := inOf_eq (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) f1 f2 f3 f4 f5 f6 (L0 m c) (X0 m c) (iblk m c 2 t) (iblk m c 3 t) (iblk m c 4 t) (iblk m c 5 t) e1 e2 e3 e4 e5 e6
  have eD' : inOf (win0_0.stage (cfg0.slots t 0)) (win0_1.stage (cfg0.slots t 1)) (win0_2.stage (cfg0.slots t 2)) (win0_3.stage (cfg0.slots t 3)) (win0_4.stage (cfg0.slots t 4)) (win0_5.stage (cfg0.slots t 5)) f1 f2 f3 f4 f5 f6 = inAt m c t := eD
  have e1' : (win0_0.stage (cfg0.slots t 0)).view.read (Elt F) f1 = L0 m c := e1
  have e2' : (win0_1.stage (cfg0.slots t 1)).view.read (Elt F) f2 = X0 m c := e2
  iapply (wp_wand_r Idealize.ShloMosaic.frame (wpE (defs₀ (F := F)) Variants.none (c : Thread nD τ) none) Set.univ)
  isplitl [H1 H2 H3 H4 H5 H6 H7 H8 H9 H10 H11 H12]
  · iapply (body_run (F := F) Variants.none c none (grid0.coords t) (win0_0.stage (cfg0.slots t 0)) (hstage0_0 ((cfg0.slots t 0).cast nbuf0_0)) (win0_1.stage (cfg0.slots t 1)) (hstage0_1 ((cfg0.slots t 1).cast nbuf0_1)) (win0_2.stage (cfg0.slots t 2)) (hstage0_2 ((cfg0.slots t 2).cast nbuf0_2)) (win0_3.stage (cfg0.slots t 3)) (hstage0_3 ((cfg0.slots t 3).cast nbuf0_3)) (win0_4.stage (cfg0.slots t 4)) (hstage0_4 ((cfg0.slots t 4).cast nbuf0_4)) (win0_5.stage (cfg0.slots t 5)) (hstage0_5 ((cfg0.slots t 5).cast nbuf0_5)) (win0_6.stage (cfg0.slots t 6)) (hstage0_6 ((cfg0.slots t 6).cast nbuf0_6)) (win0_7.stage (cfg0.slots t 7)) (hstage0_7 ((cfg0.slots t 7).cast nbuf0_7)) (win0_8.stage (cfg0.slots t 8)) (hstage0_8 ((cfg0.slots t 8).cast nbuf0_8)) (win0_9.stage (cfg0.slots t 9)) (hstage0_9 ((cfg0.slots t 9).cast nbuf0_9)) (Memref.whole cc0_scratch0) (Memref.isWhole_whole _) (Memref.whole cc0_scratch1) (Memref.isWhole_whole _) Set.univ f1 f2 f3 f4 f5 f6 f7 f8 f9 f10 f11 f12 (HS m c t.val)
      (fun h => by rw [e1', e2', e9]; exact before0_8 m c t (fun h' => h (hf.mpr h')) d8)
      (fun h => by rw [e1', e2']; exact h11 (fun h' => h (hf.mpr h')))
      (fun h => by rw [hf.mp h]; rfl)
      (fun h => h12 (fun h' => h (hf.mpr h'))))
    isplitl [H1]; · iexact H1
    isplitl [H2]; · iexact H2
    isplitl [H3]; · iexact H3
    isplitl [H4]; · iexact H4
    isplitl [H5]; · iexact H5
    isplitl [H6]; · iexact H6
    isplitl [H7]; · iexact H7
    isplitl [H8]; · iexact H8
    isplitl [H9]; · iexact H9
    isplitl [H10]; · iexact H10
    isplitl [H11]; · iexact H11
    iexact H12
  · iintro %_ ⟨%g7, %g8, %g9, %g10, %g11, %g12, H1, H2, H3, H4, H5, H6, H7, H8, H9, H10, H11, H12, %hh⟩
    rw [eD', e1', e2', coords_val t, ← HS_succ m c t] at hh
    obtain ⟨k9, k11, k10, k10', k7, k12, k8, k8'⟩ := hh
    isplitl [H11 H12 Hg]
    · isplitl [H11]
      · iexists g11; isplitr; · ipureintro; exact fun _ => k11
        iexact H11
      isplitl [H12]
      · iexists g12; isplitr; · ipureintro; exact fun _ => k12
        iexact H12
      iexact Hg
    isplitl [HW]
    · iexists W; isplitr; · ipureintro; exact fun _ _ => Or.inl trivial
      iexact HW
    isplitl [H1]
    · iapply (owns_intro c (win0_0.stage (cfg0.slots t 0)) f1 ((dats m 0 c).after 0 t) e1); iexact H1
    isplitl [H2]
    · iapply (owns_intro c (win0_1.stage (cfg0.slots t 1)) f2 ((dats m 0 c).after 1 t) e2); iexact H2
    isplitl [H3]
    · iapply (owns_intro c (win0_2.stage (cfg0.slots t 2)) f3 ((dats m 0 c).after 2 t) e3); iexact H3
    isplitl [H4]
    · iapply (owns_intro c (win0_3.stage (cfg0.slots t 3)) f4 ((dats m 0 c).after 3 t) e4); iexact H4
    isplitl [H5]
    · iapply (owns_intro c (win0_4.stage (cfg0.slots t 4)) f5 ((dats m 0 c).after 4 t) e5); iexact H5
    isplitl [H6]
    · iapply (owns_intro c (win0_5.stage (cfg0.slots t 5)) f6 ((dats m 0 c).after 5 t) e6); iexact H6
    isplitl [H7]
    · iapply (owns_intro c (win0_6.stage (cfg0.slots t 6)) g7 ((dats m 0 c).after 6 t) k7); iexact H7
    isplitl [H8]
    · iapply (out7 m c t d7 f8 g8 e8 k8 k8'); iexact H8
    isplitl [H9]
    · iapply (out8 m c t g9 k9); iexact H9
    iapply (out9 m c t d9 f10 g10 e10 k10 k10'); iexact H10

theorem defs₀_row (t : Fin cfg0.N) :
    defs₀ (F := F) .tc cfg0.body (cfg0.bodyArgs t (cfg0.slots t)) = bodyAt0 t := by
  unfold defs₀; rw [Defs.onTc_tc]

theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

theorem phi_in (c : Dev nD) : Pipeline.ΦA spec0 c ⊢ (dats (F := F) m 0 c).Φ 0 := by
  rw [show (dats m 0 c).Φ 0 = Phi m c 0 from rfl]
  unfold Pipeline.ΦA Phi pt11 pt12
  rw [scopedRest0_eq]
  simp only [Memref.view_whole, View.set_whole]
  iintro ⟨⟨⟨%f, H⟩, ⟨%f', H'⟩⟩, Hg⟩
  isplitl [H]
  · iexists f; isplitr; · ipureintro; exact fun h => absurd rfl h
    iexact H
  isplitl [H']
  · iexists f'; isplitr; · ipureintro; exact fun h => absurd rfl h
    iexact H'
  iexact Hg

theorem phi_out (c : Dev nD) : (dats (F := F) m 0 c).Φ (Fin.last cfg0.N) ⊢ Pipeline.ΦA spec0 c := by
  rw [show (dats m 0 c).Φ (Fin.last cfg0.N) = Phi m c cfg0.N from rfl]
  unfold Pipeline.ΦA Phi pt11 pt12
  rw [scopedRest0_eq]
  simp only [Memref.view_whole, View.set_whole]
  iintro ⟨⟨%f, %h, H⟩, ⟨%f', %h', H'⟩, Hg⟩
  isplitl [H H']
  · isplitl [H]
    · iexists f; iexact H
    iexists f'; iexact H'
  iexact Hg

set_option backward.isDefEq.respectTransparency.types false in
/-- The program's run: every array and every other buffer as the proof data say, every counter at zero. -/
theorem run_main : θ_run defs (onTc (τ := τ) (main (F := F))) (s₀ m ρ)
    (fun r => Pipeline.FramePost cfgs (dats m) 0 (Pipeline.afterTail₀ cfgs (dats m) 0 (V0 m) [hostOps1]) r ∧ r.2.sem = fun _ => 0) :=
  Pipeline.θ_run_frame_around_track_shared (Q' := _) cfgs (dats m) (0 : Fin 1) launch₀0 defs₀ Variants.none m ρ main
    (hbody := fun c => (body_obligation m c).loose) (hq := fun _ _ _ => rfl) (howed := fun _ _ => rfl)
    (V₀ := V0 m) (opss := [hostOps1]) (hsub := sfx_sub) (hfresh := sfx_fresh) (hkeep := sfx_keeps)
    (hmain := hmain m Variants.none) (hA := A_eq m) (hin := phi_in m) (hout := phi_out m) (hQ' := fun _ h => h)

end Cert.KernelIdeal.Blk

end

end
-- ==== Proof.Same.lean ====
module

public import proofs.«01_k».proof.Kernel
public import proofs.«01_k».proof.KernelIdeal

/-! # The program read at machine values and the one read at ideal values are one program

Both are printed from one kernel, so their texts are the same and only the values differ. -/

@[expose] public section

set_option maxRecDepth 8192
set_option maxHeartbeats 400000
noncomputable section

namespace Cert.Proof
open Idealize.ShloMosaic Idealize.SL.Sem

variable {F : FTy → Type} [FloatOps F] [hK : Cert.Kernel.Facts] [hI : Cert.KernelIdeal.Facts]

theorem main_same : (Cert.Kernel.main (F := F)) = (Cert.KernelIdeal.main (F := F)) := rfl

theorem defs₀_same : (Cert.Kernel.defs₀ (F := F)) = (Cert.KernelIdeal.defs₀ (F := F)) := by
  unfold Cert.Kernel.defs₀ Cert.KernelIdeal.defs₀
  refine congrArg Defs.onTc (funext fun l => funext fun x => ?_)
  match l, x with
  | ⟨0, _⟩, (t, s) => rfl
  | ⟨n + 1, h⟩, _ => exact absurd h (Nat.not_lt.2 (Nat.le_add_left _ _))

theorem defs_same : (Cert.Kernel.defs (F := F)) = (Cert.KernelIdeal.defs (F := F)) :=
  congrArg (Pipeline.defs (Cert.KernelIdeal.pcfgs (F := F))) defs₀_same

end Cert.Proof

end
-- ==== Proof.Frames.lean ====
module

public import proofs.«01_k».proof.Proof.RunMain
public import proofs.«01_k».proof.Proof.Gen.Kernel
public import proofs.«01_k».proof.Proof.Same
public import proofs.«01_k».proof.Defs
public import Idealize.ShloMosaic.Lib.Claim

/-! # The kernel's frame, at any values

The ideal program is printed from the same kernel as the program with machine values, so the two are one program with
two readings of its values: the run, proved at any values, is both programs' run. -/

@[expose] public section

set_option maxRecDepth 8192
set_option maxHeartbeats 400000

noncomputable section

namespace Cert.KernelIdeal.Blk

open Idealize.ShloMosaic Idealize.ShloMosaic.TcCoe Idealize.SL Idealize.SL.Sem
open Cert.KernelIdeal.Gen

variable {F : FTy → Type} [FloatOps F]
variable (m : (ℓ : Loc nD τ sig) → Buf (Elt F) ℓ) (ρ : Dev nD → PrngReg)

/-- The program runs, its arguments end unchanged and every counter ends at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3))
      ∧ r.2.sem = fun _ => 0) :=
  θ_run_and (frame_of m ρ (dats m) (A_eq m) ((θ_run defs _ _).mono (fun _ h => h.1) (run_main m ρ)))
    ((θ_run defs _ _).mono (fun _ h => h.2) (run_main m ρ))

end Cert.KernelIdeal.Blk

namespace Cert.Proof

open Idealize.ShloMosaic Idealize.ShloMosaic.TcCoe Idealize.SL Idealize.SL.Sem

theorem ideal_frame : quiescent_KernelIdeal (hKernelIdeal := Cert.KernelIdeal.Gen.facts) :=
  fun m g _ => Cert.KernelIdeal.Blk.frame m g

theorem kernel_frame : quiescent_Kernel (hKernel := Cert.Kernel.Gen.facts) := by
  intro m g _
  rw [main_same (hK := Cert.Kernel.Gen.facts) (hI := Cert.KernelIdeal.Gen.facts), defs_same (hK := Cert.Kernel.Gen.facts) (hI := Cert.KernelIdeal.Gen.facts)]
  exact Cert.KernelIdeal.Blk.frame (F := Bits) m g

end Cert.Proof

end
-- ==== Proof.Scale.lean ====
module

public import Idealize.ShloMosaic.PureOps.Ideal

/-! # The scale of a row of numbers, by its exponent field and by its logarithm -/

@[expose] public section

set_option maxRecDepth 8192
set_option maxHeartbeats 400000

noncomputable section

namespace Cert.Spec

open Idealize.ShloMosaic

section scalars
variable {F : FTy → Type} [FloatOps F]

/-- One step of the search for the exponent field: `s` is added where the sum's number is not above `t`. -/
def stp (t : F .f32) (s q : BitVec 32) : BitVec 32 :=
  Scalar.select (FloatOps.cmpf .oge t (Scalar.ofBits .f32 (IntOp.addi q s))) (IntOp.addi q s) q
/-- The field that the eight steps find. -/
def find (t : F .f32) : BitVec 32 :=
  stp t 8388608#32 (stp t 16777216#32 (stp t 33554432#32 (stp t 67108864#32 (stp t 134217728#32 (stp t 268435456#32
    (stp t 536870912#32 (stp t 1073741824#32 0#32)))))))
/-- The field with all its bits set where `t` is not below `2 ^ 120`. -/
def cap (t : F .f32) (q : BitVec 32) : BitVec 32 :=
  Scalar.select (FloatOps.cmpf .oge t (Scalar.ofBits .f32 0x7B800000#32)) 2139095040#32 q
/-- The scale's bits: the next field, and one where the field is empty or full. -/
def fld (q : BitVec 32) : BitVec 32 :=
  Scalar.select (IntOp.ori (IntOp.cmpi .eq q 0#32) (IntOp.cmpi .eq q 2139095040#32)) 1065353216#32 (IntOp.addi q 8388608#32)
/-- The scale by its bits. -/
def sBits (t : F .f32) : F .f32 := Scalar.ofBits .f32 (fld (cap t (find t)))
/-- One over the scale by its bits. -/
def iBits (t : F .f32) : F .f32 := Scalar.ofBits .f32 (IntOp.subi 2130706432#32 (fld (cap t (find t))))

/-- The scale's exponent by the logarithm. -/
def ex (t : F .f32) : F .f32 :=
  Scalar.select (IntOp.ori (FloatOps.cmpf .olt t (Scalar.ofBits .f32 0x00800000#32)) (FloatOps.cmpf .oge t (Scalar.ofBits .f32 0x7B800000#32)))
    (Scalar.ofBits .f32 0x00000000#32)
    (FloatOps.addf (FloatOps.floor (FloatOps.divf (FloatOps.log t) (FloatOps.log (Scalar.ofBits .f32 0x40000000#32)))) (Scalar.ofBits .f32 0x3F800000#32))
/-- The scale. -/
def sc (t : F .f32) : F .f32 := FloatOps.exp2 (ex t)
/-- One over the scale. -/
def inv (t : F .f32) : F .f32 := FloatOps.exp2 (FloatOps.subf (Scalar.ofBits .f32 0x00000000#32) (ex t))
end scalars

/-- The three parts of a pattern that has an exponent field only. -/
theorem parts : ∀ n : Fin 256, (BitVec.ofNat 32 (n.val * 8388608)).extractLsb' 31 1 = 0#1
    ∧ ((BitVec.ofNat 32 (n.val * 8388608)).extractLsb' 23 8).toNat = n.val
    ∧ ((BitVec.ofNat 32 (n.val * 8388608)).extractLsb' 0 23).toNat = 0 := by decide +kernel

/-- A pattern with the exponent field `n` reads as `2 ^ (n − 127)`. -/
theorem ofBits_pow (n : ℕ) (h1 : 1 ≤ n) (h2 : n ≤ 254) :
    Ideal.ofBits .f32 (BitVec.ofNat 32 (n * 8388608)) = (((2 : ℝ) ^ ((n : ℤ) - 127) : ℝ) : EReal) := by
  obtain ⟨p1, p2, p3⟩ := parts ⟨n, by omega⟩
  show Ideal.ieee 8 23 _ = _
  unfold Ideal.ieee
  simp only at p1 p2 p3
  simp only [p1, p2, p3]
  rw [if_neg (by omega), if_neg (by omega)]
  congr 1
  have e : (2 : ℝ) ^ ((n : ℤ) - 127) = 2 ^ (23 : ℤ) * 2 ^ ((n : ℤ) - 127 - 23) := by
    rw [← zpow_add₀ (by norm_num)]; congr 1; omega
  rw [e]
  norm_num

theorem ofBits_top : Ideal.ofBits .f32 (BitVec.ofNat 32 (255 * 8388608)) = ⊤ := by
  obtain ⟨p1, p2, p3⟩ := parts ⟨255, by omega⟩
  show Ideal.ieee 8 23 (w := 32) (BitVec.ofNat 32 (255 * 8388608)) = (⊤ : EReal)
  unfold Ideal.ieee
  simp only at p1 p2 p3
  simp only [p1, p2, p3]
  norm_num

theorem ofBits_zero : Ideal.ofBits .f32 0#32 = 0 := by
  obtain ⟨p1, p2, p3⟩ := parts ⟨0, by omega⟩
  show Ideal.ieee 8 23 (w := 32) (BitVec.ofNat 32 (0 * 8388608)) = (0 : EReal)
  unfold Ideal.ieee
  simp only at p1 p2 p3
  simp only [p1, p2, p3]
  norm_num

/-- `t`'s exponent field is `E`: the numbers of the fields up to `E` are not above `t`, and those of the later ones are. -/
def Field (t : EReal) (E : ℕ) : Prop := ∀ n, 1 ≤ n → n ≤ 255 → (Ideal.ofBits .f32 (BitVec.ofNat 32 (n * 8388608)) ≤ t ↔ n ≤ E)

/-- The search's step on the fields' numbers. -/
def stepN (E j k : ℕ) : ℕ := if k + j ≤ E then k + j else k

theorem select_ofBool {α : Type} (p : Prop) [Decidable p] (a b : α) : Scalar.select (BitVec.ofBool (decide p)) a b = if p then a else b := by
  by_cases h : p <;> simp [h, Scalar.select]

theorem cmpf_oge (a b : EReal) : FloatOps.cmpf (F := Ideal) (φ := .f32) .oge a b = BitVec.ofBool (decide (b ≤ a)) := rfl
theorem cmpf_olt (a b : EReal) : FloatOps.cmpf (F := Ideal) (φ := .f32) .olt a b = BitVec.ofBool (decide (a < b)) := rfl

theorem stp_eq {t : EReal} {E : ℕ} (h : Field t E) (j k : ℕ) (h1 : 1 ≤ k + j) (h2 : k + j ≤ 255) :
    stp (F := Ideal) t (BitVec.ofNat 32 (j * 8388608)) (BitVec.ofNat 32 (k * 8388608)) = BitVec.ofNat 32 (stepN E j k * 8388608) := by
  have e : IntOp.addi (BitVec.ofNat 32 (k * 8388608)) (BitVec.ofNat 32 (j * 8388608)) = BitVec.ofNat 32 ((k + j) * 8388608) := by
    show _ + _ = _
    rw [← BitVec.ofNat_add, Nat.add_mul]
  unfold stp
  rw [e, cmpf_oge, select_ofBool]
  unfold stepN
  have := h (k + j) h1 h2
  by_cases hk : k + j ≤ E
  · rw [if_pos hk]; exact if_pos (this.mpr hk)
  · rw [if_neg hk]; exact if_neg fun hh => hk (this.mp hh)

theorem stepN_le (E j k : ℕ) : stepN E j k ≤ k + j := by unfold stepN; split <;> omega

theorem search : ∀ E : Fin 256, stepN E 1 (stepN E 2 (stepN E 4 (stepN E 8 (stepN E 16 (stepN E 32 (stepN E 64 (stepN E 128 0))))))) = E := by
  decide +kernel

theorem find_eq {t : EReal} {E : ℕ} (h : Field t E) (hE : E < 256) : find (F := Ideal) t = BitVec.ofNat 32 (E * 8388608) := by
  have b1 := stepN_le E 128 0
  have b2 := stepN_le E 64 (stepN E 128 0)
  have b3 := stepN_le E 32 (stepN E 64 (stepN E 128 0))
  have b4 := stepN_le E 16 (stepN E 32 (stepN E 64 (stepN E 128 0)))
  have b5 := stepN_le E 8 (stepN E 16 (stepN E 32 (stepN E 64 (stepN E 128 0))))
  have b6 := stepN_le E 4 (stepN E 8 (stepN E 16 (stepN E 32 (stepN E 64 (stepN E 128 0)))))
  have b7 := stepN_le E 2 (stepN E 4 (stepN E 8 (stepN E 16 (stepN E 32 (stepN E 64 (stepN E 128 0))))))
  have s0 : stp (F := Ideal) t 1073741824#32 0#32 = BitVec.ofNat 32 ((stepN E 128 0) * 8388608) := stp_eq h 128 0 (by omega) (by omega)
  have s1 : stp (F := Ideal) t 536870912#32 (BitVec.ofNat 32 ((stepN E 128 0) * 8388608)) = BitVec.ofNat 32 ((stepN E 64 (stepN E 128 0)) * 8388608) := stp_eq h 64 _ (by omega) (by omega)
  have s2 : stp (F := Ideal) t 268435456#32 (BitVec.ofNat 32 ((stepN E 64 (stepN E 128 0)) * 8388608)) = BitVec.ofNat 32 ((stepN E 32 (stepN E 64 (stepN E 128 0))) * 8388608) := stp_eq h 32 _ (by omega) (by omega)
  have s3 : stp (F := Ideal) t 134217728#32 (BitVec.ofNat 32 ((stepN E 32 (stepN E 64 (stepN E 128 0))) * 8388608)) = BitVec.ofNat 32 ((stepN E 16 (stepN E 32 (stepN E 64 (stepN E 128 0)))) * 8388608) := stp_eq h 16 _ (by omega) (by omega)
  have s4 : stp (F := Ideal) t 67108864#32 (BitVec.ofNat 32 ((stepN E 16 (stepN E 32 (stepN E 64 (stepN E 128 0)))) * 8388608)) = BitVec.ofNat 32 ((stepN E 8 (stepN E 16 (stepN E 32 (stepN E 64 (stepN E 128 0))))) * 8388608) := stp_eq h 8 _ (by omega) (by omega)
  have s5 : stp (F := Ideal) t 33554432#32 (BitVec.ofNat 32 ((stepN E 8 (stepN E 16 (stepN E 32 (stepN E 64 (stepN E 128 0))))) * 8388608)) = BitVec.ofNat 32 ((stepN E 4 (stepN E 8 (stepN E 16 (stepN E 32 (stepN E 64 (stepN E 128 0)))))) * 8388608) := stp_eq h 4 _ (by omega) (by omega)
  have s6 : stp (F := Ideal) t 16777216#32 (BitVec.ofNat 32 ((stepN E 4 (stepN E 8 (stepN E 16 (stepN E 32 (stepN E 64 (stepN E 128 0)))))) * 8388608)) = BitVec.ofNat 32 ((stepN E 2 (stepN E 4 (stepN E 8 (stepN E 16 (stepN E 32 (stepN E 64 (stepN E 128 0))))))) * 8388608) := stp_eq h 2 _ (by omega) (by omega)
  have s7 : stp (F := Ideal) t 8388608#32 (BitVec.ofNat 32 ((stepN E 2 (stepN E 4 (stepN E 8 (stepN E 16 (stepN E 32 (stepN E 64 (stepN E 128 0))))))) * 8388608)) = BitVec.ofNat 32 ((stepN E 1 (stepN E 2 (stepN E 4 (stepN E 8 (stepN E 16 (stepN E 32 (stepN E 64 (stepN E 128 0)))))))) * 8388608) := stp_eq h 1 _ (by omega) (by omega)
  unfold find
  rw [s0, s1, s2, s3, s4, s5, s6, s7]
  have := search ⟨E, hE⟩
  simp only at this
  rw [this]

theorem fld_full : fld 2139095040#32 = 1065353216#32 := by decide
theorem fld_empty : fld 0#32 = 1065353216#32 := by decide
theorem fld_mid : ∀ E : Fin 247, 1 ≤ E.val → fld (BitVec.ofNat 32 (E.val * 8388608)) = BitVec.ofNat 32 ((E.val + 1) * 8388608)
    ∧ IntOp.subi 2130706432#32 (fld (BitVec.ofNat 32 (E.val * 8388608))) = BitVec.ofNat 32 ((253 - E.val) * 8388608) := by decide +kernel

theorem two120 : (Scalar.ofBits .f32 0x7B800000#32 : Ideal .f32) = (((2 : ℝ) ^ (120 : ℤ) : ℝ) : EReal) := ofBits_pow 247 (by omega) (by omega)
theorem twoN126 : (Scalar.ofBits .f32 0x00800000#32 : Ideal .f32) = (((2 : ℝ) ^ (-126 : ℤ) : ℝ) : EReal) := ofBits_pow 1 (by omega) (by omega)
theorem one' : (Scalar.ofBits .f32 0x3F800000#32 : Ideal .f32) = ((1 : ℝ) : EReal) := by
  have := ofBits_pow 127 (by omega) (by omega)
  simpa using this
theorem two' : (Scalar.ofBits .f32 0x40000000#32 : Ideal .f32) = ((2 : ℝ) : EReal) := by
  have := ofBits_pow 128 (by omega) (by omega)
  simpa using this
theorem zero' : (Scalar.ofBits .f32 0x00000000#32 : Ideal .f32) = ((0 : ℝ) : EReal) := ofBits_zero

theorem one_bits : (Scalar.ofBits .f32 (IntOp.subi 2130706432#32 1065353216#32) : Ideal .f32) = ((1 : ℝ) : EReal) := by
  have : IntOp.subi 2130706432#32 1065353216#32 = 1065353216#32 := by decide
  rw [this]; exact one'

theorem exp2_zero : Ideal.exp2 ((0 : ℝ) : EReal) = ((1 : ℝ) : EReal) := by
  show ((Real.rpow 2 0 : ℝ) : EReal) = _
  congr 1; exact Real.rpow_zero 2

theorem ori_ofBool (a b : Bool) : IntOp.ori (BitVec.ofBool a) (BitVec.ofBool b) = BitVec.ofBool (a || b) := by cases a <;> cases b <;> decide

/-- Outside the range both scales are one. -/
theorem out_of_range {t : EReal} (hf : fld (cap (F := Ideal) t (find (F := Ideal) t)) = 1065353216#32)
    (he : ex (F := Ideal) t = ((0 : ℝ) : EReal)) : sBits (F := Ideal) t = sc (F := Ideal) t ∧ iBits (F := Ideal) t = inv (F := Ideal) t := by
  constructor
  · unfold sBits sc
    rw [hf, he]
    exact one'.trans exp2_zero.symm
  · unfold iBits inv
    rw [hf, he, one_bits, zero']
    refine exp2_zero.symm.trans (congrArg Ideal.exp2 ?_)
    show ((0 : ℝ) : EReal) = ((0 : ℝ) : EReal) - ((0 : ℝ) : EReal)
    simp

theorem ex_out {t : EReal} (h : t < (((2 : ℝ) ^ (-126 : ℤ) : ℝ) : EReal) ∨ (((2 : ℝ) ^ (120 : ℤ) : ℝ) : EReal) ≤ t) :
    ex (F := Ideal) t = ((0 : ℝ) : EReal) := by
  unfold ex
  rw [cmpf_olt, cmpf_oge, ori_ofBool, twoN126, two120, zero', ← Bool.decide_or, select_ofBool, if_pos h]

/-- The power `2 ^ k` is not above `r` just where `k` is not above the whole part of `r`'s binary logarithm. -/
theorem zpow_le {r : ℝ} (hr : 0 < r) (k : ℤ) : (2 : ℝ) ^ k ≤ r ↔ k ≤ ⌊Real.log r / Real.log 2⌋ := by
  have l3 : 0 < Real.log 2 := Real.log_pos (by norm_num)
  rw [Int.le_floor, le_div_iff₀ l3, ← Real.log_zpow, Real.log_le_log_iff (by positivity) hr]

/-- The scale by its bits is the scale by the logarithm, and so are their inverses. -/
theorem scale_eq (t : EReal) : sBits (F := Ideal) t = sc (F := Ideal) t ∧ iBits (F := Ideal) t = inv (F := Ideal) t := by
  by_cases hb : (((2 : ℝ) ^ (120 : ℤ) : ℝ) : EReal) ≤ t
  · refine out_of_range ?_ (ex_out (.inr hb))
    unfold cap
    rw [cmpf_oge, two120, select_ofBool, if_pos hb, fld_full]
  have hcap : ∀ q, cap (F := Ideal) t q = q := fun q => by
    unfold cap
    rw [cmpf_oge, two120, select_ofBool, if_neg hb]
  by_cases hs : t < (((2 : ℝ) ^ (-126 : ℤ) : ℝ) : EReal)
  · refine out_of_range ?_ (ex_out (.inl hs))
    have hF : Field t 0 := fun n h1 h2 => by
      constructor
      · intro h
        exfalso
        rcases Nat.lt_or_ge n 255 with h3 | h3
        · rw [ofBits_pow n h1 (by omega)] at h
          have := lt_of_le_of_lt h hs
          rw [EReal.coe_lt_coe_iff, zpow_lt_zpow_iff_right₀ (by norm_num)] at this
          omega
        · obtain rfl : n = 255 := by omega
          rw [ofBits_top] at h
          exact absurd (lt_of_le_of_lt h hs) (by simp)
      · omega
    rw [hcap, find_eq hF (by omega)]
    exact fld_empty
  · rw [not_lt] at hs; rw [not_le] at hb
    induction t using EReal.rec with
    | bot => exact absurd hs (by simp)
    | top => exact absurd hb (by simp)
    | coe r =>
    rw [EReal.coe_le_coe_iff] at hs
    rw [EReal.coe_lt_coe_iff] at hb
    have hr : 0 < r := lt_of_lt_of_le (by positivity) hs
    have hl : (-126 : ℤ) ≤ ⌊Real.log r / Real.log 2⌋ := (zpow_le hr _).mp hs
    have hu : ⌊Real.log r / Real.log 2⌋ < (120 : ℤ) := by
      by_contra h
      exact absurd ((zpow_le hr 120).mpr (by omega)) (not_le.mpr hb)
    obtain ⟨E, hE⟩ : ∃ E : ℕ, (E : ℤ) = ⌊Real.log r / Real.log 2⌋ + 127 := ⟨(⌊Real.log r / Real.log 2⌋ + 127).toNat, by omega⟩
    have hF : Field (r : EReal) E := fun n h1 h2 => by
      rcases Nat.lt_or_ge n 255 with h3 | h3
      · rw [ofBits_pow n h1 (by omega), EReal.coe_le_coe_iff]
        rw [zpow_le hr]; omega
      · obtain rfl : n = 255 := by omega
        rw [ofBits_top]
        simp only [top_le_iff, EReal.coe_ne_top, false_iff]
        omega
    have hq := find_eq hF (by omega)
    obtain ⟨f1, f2⟩ := fld_mid ⟨E, by omega⟩ (by simp only; omega)
    simp only at f1 f2
    have he : ex (F := Ideal) (r : EReal) = (((⌊Real.log r / Real.log 2⌋ + 1 : ℤ) : ℝ) : EReal) := by
      unfold ex
      rw [cmpf_olt, cmpf_oge, ori_ofBool, twoN126, two120, zero', ← Bool.decide_or, select_ofBool, if_neg, two', one']
      · show Ideal.liftRound Int.floor (Ideal.div (Ideal.log (r : EReal)) (Ideal.log ((2 : ℝ) : EReal))) + ((1 : ℝ) : EReal) = _
        have l1 : Ideal.log (r : EReal) = ((Real.log r : ℝ) : EReal) := if_neg (not_le.mpr hr)
        have l2 : Ideal.log ((2 : ℝ) : EReal) = ((Real.log 2 : ℝ) : EReal) := if_neg (by norm_num)
        have l3 : Real.log 2 ≠ 0 := (Real.log_pos (by norm_num)).ne'
        have hd : Ideal.div ((Real.log r : ℝ) : EReal) ((Real.log 2 : ℝ) : EReal) = ((Real.log r / Real.log 2 : ℝ) : EReal) := by
          unfold Ideal.div
          rw [if_neg (by exact_mod_cast l3), div_eq_mul_inv, EReal.coe_mul, EReal.coe_inv]
        rw [l1, l2, hd]
        show (((⌊Real.log r / Real.log 2⌋ : ℤ) : ℝ) : EReal) + _ = _
        rw [← EReal.coe_add]
        push_cast
        rfl
      · rw [EReal.coe_lt_coe_iff, EReal.coe_le_coe_iff]
        rintro (h | h)
        · exact absurd h (not_lt.mpr hs)
        · exact absurd h (not_le.mpr hb)
    have hpow : ∀ k : ℤ, Ideal.exp2 (((k : ℤ) : ℝ) : EReal) = (((2 : ℝ) ^ k : ℝ) : EReal) := fun k => by
      show ((Real.rpow 2 (k : ℝ) : ℝ) : EReal) = _
      congr 1; exact Real.rpow_intCast 2 k
    constructor
    · unfold sBits sc
      rw [hcap, hq, f1, he]
      refine (ofBits_pow (E + 1) (by omega) (by omega)).trans ((hpow _).trans ?_).symm
      congr 2; push_cast; omega
    · unfold iBits inv
      rw [hcap, hq, f2, he, zero']
      refine (ofBits_pow (253 - E) (by omega) (by omega)).trans ?_
      have e0 : (FloatOps.subf (F := Ideal) (φ := .f32) ((0 : ℝ) : EReal) (((⌊Real.log r / Real.log 2⌋ + 1 : ℤ) : ℝ) : EReal)) = (((-(⌊Real.log r / Real.log 2⌋ + 1) : ℤ) : ℝ) : EReal) := by
        show ((0 : ℝ) : EReal) - _ = _
        rw [← EReal.coe_sub]; congr 1; push_cast; ring
      rw [e0]
      refine ((hpow _).trans ?_).symm
      congr 2; omega

end Cert.Spec

end
-- ==== Proof.RefRows.lean ====
module

public import proofs.«01_k».proof.Proof.Scale
public import proofs.«01_k».proof.Proof.Gen.ReferenceIdeal.Frame
public import Idealize.ShloMosaic.Lib.Pointwise
public import Idealize.ShloMosaic.PureOps.Ideal

/-! # The reference's rows: codes and scales read at an index -/

@[expose] public section

set_option maxRecDepth 16384
set_option maxHeartbeats 400000

noncomputable section

namespace Cert.Spec

open Idealize.ShloMosaic Idealize.ShloMosaic.TcCoe Idealize.ShloMosaic.Pointwise

/-- A row's largest magnitude over 448. -/
def amax {n : ℕ} (f : Fin n → EReal) : EReal :=
  Finset.fold max (Ideal.ofBits .f32 0xFF800000#32) (fun k => FloatOps.absf (F := Ideal) (φ := .f32) (f k)) Finset.univ * Ideal.ofBits .f32 0x3B124925#32

/-- A number over its row's scale, kept within ±448. -/
def clip (v i : EReal) : EReal := min (Ideal.ofBits .f32 0x43E00000#32) (max (Ideal.ofBits .f32 0xC3E00000#32) (v * i))

/-- A row below the batch's length. -/
def live (r : ℕ) (len : BitVec 32) : BitVec 1 := IntOp.cmpi .slt (BitVec.ofNat 32 r) len

/-- A row's code. -/
def code (l : BitVec 1) (v t : EReal) : EReal := Scalar.select l (clip v (inv (F := Ideal) t)) 0
/-- A row's scale. -/
def scale (l : BitVec 1) (t : EReal) : EReal := Scalar.select l (sc (F := Ideal) t) 0

section ref
open Cert.ReferenceIdeal Cert.ReferenceIdeal.Gen

section generic
variable {F : FTy → Type} [FloatOps F]
/-- The reference's largest magnitudes. -/
def rM (v7 : Vec F S6x256x1152 .bf16) : FVec F S6x256 .f32 :=
  multiReduction .maximumf [2] S6x256 (absf (k0_pay5 v7)) 0xFF800000#32 reduces_S6x256x1152_S6x256 (.inl rfl) rfl
/-- The reference's largest magnitudes over 448. -/
def rT (v7 : Vec F S6x256x1152 .bf16) : FVec F S6x256x1 .f32 :=
  mulf (shapeCast S6x256x1 (rM v7) shapeCasts_S6x256_S6x256x1) (broadcast S6x256x1 (Scalar.ofBits .f32 0x3B124925#32))
theorem rT_eq (v7 : Vec F S6x256x1152 .bf16) (j : S6x256x1.Idx) :
    rT v7 j = FloatOps.mulf (shapeCast S6x256x1 (rM v7) shapeCasts_S6x256_S6x256x1 j) (Scalar.ofBits .f32 0x3B124925#32) := rfl
theorem pay6_eq (v7 : Vec F S6x256x1152 .bf16) (j : S6x256x1.Idx) : k0_pay6 v7 j = ex (rT v7 j) := rfl
theorem pay7_eq (v1 : Vec F S6x128 .i32) (v7 : Vec F S6x256x1152 .bf16) (j : S6x256x1.Idx) :
    k0_pay7 v1 v7 j = Scalar.select (k0_pay4 (F := F) v1 j) (sc (rT v7 j)) (Scalar.ofBits .f32 0x00000000#32) := rfl
/-- One over the scales. -/
def rI (v7 : Vec F S6x256x1152 .bf16) : FVec F S6x256x1 .f32 := exp2 (subf (broadcast S6x256x1 (Scalar.ofBits .f32 0x00000000#32)) (k0_pay6 v7))
theorem rI_eq (v7 : Vec F S6x256x1152 .bf16) (j : S6x256x1.Idx) : rI v7 j = inv (rT v7 j) := rfl
theorem pay8_eq (v7 : Vec F S6x256x1152 .bf16) : k0_pay8 v7 = minimumf (broadcast S6x256x1152 (Scalar.ofBits .f32 0x43E00000#32))
    (maximumf (broadcast S6x256x1152 (Scalar.ofBits .f32 0xC3E00000#32)) (mulf (k0_pay5 v7) (broadcastTo S6x256x1152 (rI v7) broadcasts_S6x256x1_S6x256x1152))) := rfl
end generic

variable (v1 : Vec Ideal S6x128 .i32) (v7 : Vec Ideal S6x256x1152 .bf16) (b : Fin 6) (r : Fin 256)

theorem rM_at : rM (F := Ideal) v7 (ix2 b r)
    = Finset.fold max (Ideal.ofBits .f32 0xFF800000#32) (fun k : Fin 1152 => FloatOps.absf (F := Ideal) (φ := .f32) (v7 (ix3 b r k))) Finset.univ := by
  pointwise [rM, k0_pay5]

theorem cast_at (v : FVec Ideal S6x256 .f32) : shapeCast S6x256x1 v shapeCasts_S6x256_S6x256x1 (ix3 b r 0) = v (ix2 b r) := by
  pointwise

theorem rT_at : rT (F := Ideal) v7 (ix3 b r 0) = amax fun k : Fin 1152 => v7 (ix3 b r k) := by
  rw [rT_eq, cast_at, rM_at]
  unfold amax
  exact Ideal.mulf_def _ _

theorem pay4_at : k0_pay4 (F := Ideal) v1 (ix3 b r 0) = live r.val (v1 (ix2 b 0)) := by
  pointwise [k0_pay4]
  rfl

/-- The reference's row scale. -/
theorem ref_scale : k0_pay7 (F := Ideal) v1 v7 (ix3 b r 0) = scale (live r.val (v1 (ix2 b 0))) (amax fun k : Fin 1152 => v7 (ix3 b r k)) := by
  rw [pay7_eq, pay4_at, rT_at]
  unfold scale
  congr 1
  exact zero'

/-- The reference's row code. -/
theorem ref_code (k : Fin 1152) : k0_pay11 (F := Ideal) (k0_pay8 (F := Ideal) v7) (k0_pay9 (F := Ideal) v1) (k0_pay10 (F := Ideal)) (ix3 b r k)
    = code (live r.val (v1 (ix2 b 0))) (v7 (ix3 b r k)) (amax fun k : Fin 1152 => v7 (ix3 b r k)) := by
  rw [pay8_eq]
  pointwise [k0_pay11, k0_pay9, k0_pay10, k0_pay5]
  rw [pay4_at, rI_eq, rT_at]
  rfl
end ref

end Cert.Spec

end
-- ==== Proof.KerRows.lean ====
module

public import proofs.«01_k».proof.Proof.RefRows
public import proofs.«01_k».proof.Proof.Rows

/-! # The kernel's rows: codes and scales read at an index -/

@[expose] public section

set_option maxRecDepth 16384
set_option maxHeartbeats 400000

noncomputable section

namespace Cert.Spec

open Idealize.ShloMosaic Idealize.ShloMosaic.TcCoe Idealize.ShloMosaic.Pointwise
open Cert.KernelIdeal Cert.KernelIdeal.Gen Cert.KernelIdeal.Blk

section generic
variable {F : FTy → Type} [FloatOps F]

theorem pay9_eq (q : FVec F S32x128 .f32) (j : S32x128.Idx) : k0_pay9 (F := F) q k0_pay8 j = cap (q j) (find (q j)) := rfl
theorem pay13_eq (q : FVec F S32x128 .f32) (j : S32x128.Idx) :
    k0_pay13 (k0_pay9 (F := F) q k0_pay8) (k0_pay10 (F := F) q k0_pay8) (k0_pay11 (F := F) q k0_pay8) j = fld (cap (q j) (find (q j))) := by
  show fld (k0_pay9 (F := F) q k0_pay8 j) = _
  rw [pay9_eq]

/-- The chunk's scales' bits. -/
def kB (x : Vec F S1x32x1152 .bf16) : IVec S32x128 32 :=
  k0_pay13 (k0_pay9 (F := F) (k0_pay7 x) k0_pay8) (k0_pay10 (F := F) (k0_pay7 x) k0_pay8) (k0_pay11 (F := F) (k0_pay7 x) k0_pay8)
/-- The chunk's scales. -/
def kS (x : Vec F S1x32x1152 .bf16) : FVec F S32x128 .f32 := bitcastToFloat .f32 (kB x)
/-- One over the chunk's scales. -/
def kI (x : Vec F S1x32x1152 .bf16) : FVec F S32x128 .f32 := bitcastToFloat .f32 (subi (broadcast S32x128 2130706432#32) (kB x))
theorem kS_eq (x : Vec F S1x32x1152 .bf16) (j : S32x128.Idx) : kS x j = sBits (k0_pay7 x j) := by
  show Scalar.ofBits .f32 (kB x j) = _
  unfold kB sBits
  rw [pay13_eq]
theorem kI_eq (x : Vec F S1x32x1152 .bf16) (j : S32x128.Idx) : kI x j = iBits (k0_pay7 x j) := by
  show Scalar.ofBits .f32 (IntOp.subi 2130706432#32 (kB x j)) = _
  unfold kB iBits
  rw [pay13_eq]

theorem chunkS_eq (x : Vec F S1x32x1152 .bf16) (len w : BitVec 32) : chunkS x len w
    = shapeCast S1x32x128 (select (k0_pay14 (F := F) w len) (kS x) (broadcast S32x128 (Scalar.ofBits .f32 0x00000000#32))) shapeCasts_S32x128_S1x32x128 := rfl
theorem chunkC_eq (x : Vec F S1x32x1152 .bf16) (len w : BitVec 32) : chunkC x len w
    = shapeCast S1x32x1152 (truncf .fp8e4m3 (select (broadcastTo S32x1152 (shapeCast S32x1 (extractStridedSlice S32x1 ![0, 0] (k0_pay14 (F := F) w len) slices_S32x128_o0_0_S32x1) shapeCasts_S32x1_S32x1) broadcasts_S32x1_S32x1152)
        (minimumf (broadcast S32x1152 (Scalar.ofBits .f32 0x43E00000#32)) (maximumf (broadcast S32x1152 (Scalar.ofBits .f32 0xC3E00000#32))
          (mulf (k0_pay6 x) (broadcastTo S32x1152 (extractStridedSlice S32x1 ![0, 0] (select (k0_pay14 (F := F) w len) (kI x) (broadcast S32x128 (Scalar.ofBits .f32 0x00000000#32))) slices_S32x128_o0_0_S32x1) broadcasts_S32x1_S32x1152))))
        (broadcast S32x1152 (Scalar.ofBits .f32 0x00000000#32))) bitsLt_fp8e4m3_f32) shapeCasts_S32x1152_S1x32x1152 := rfl
end generic

variable (x : Vec Ideal S1x32x1152 .bf16) (i : Fin 32) (len w : BitVec 32)

theorem pay7_at (l : Fin 128) : k0_pay7 (F := Ideal) x (ix2 i l) = amax fun k : Fin 1152 => x (ix3 0 i k) := by
  pointwise [k0_pay7, k0_pay6]
  unfold amax
  rfl

theorem pay14_at (l : Fin 128) : k0_pay14 (F := Ideal) w len (ix2 i l) = IntOp.cmpi .slt (IntOp.addi w (BitVec.ofNat 32 i.val)) len := by
  pointwise [k0_pay14]

/-- A select within a select on the same bit. -/
theorem select_clip (l : BitVec 1) (v i : EReal) :
    Scalar.select l (min (Ideal.ofBits .f32 0x43E00000#32) (max (Ideal.ofBits .f32 0xC3E00000#32) (Scalar.select l (v * i) 0))) 0 = Scalar.select l (clip v i) 0 := by
  unfold Scalar.select clip
  split <;> rfl

theorem chunkS_at (l : Fin 128) : chunkS (F := Ideal) x len w (ix3 0 i l)
    = scale (IntOp.cmpi .slt (IntOp.addi w (BitVec.ofNat 32 i.val)) len) (amax fun k : Fin 1152 => x (ix3 0 i k)) := by
  rw [chunkS_eq]
  pointwise
  rw [pay14_at, kS_eq, pay7_at, (scale_eq _).1]
  rfl

theorem chunkC_at (k : Fin 1152) : chunkC (F := Ideal) x len w (ix3 0 i k)
    = code (IntOp.cmpi .slt (IntOp.addi w (BitVec.ofNat 32 i.val)) len) (x (ix3 0 i k)) (amax fun k : Fin 1152 => x (ix3 0 i k)) := by
  rw [chunkC_eq]
  pointwise [k0_pay6]
  rw [pay14_at, kI_eq, pay7_at, (scale_eq _).2]
  rw [select_clip]
  unfold code
  rfl

theorem live_eq (p : ℕ) (u : ℕ) (len : BitVec 32) : IntOp.cmpi .slt (IntOp.addi (BitVec.ofNat 32 p) (BitVec.ofNat 32 u)) len = live (p + u) len := by
  unfold live
  congr 1
  exact (BitVec.ofNat_add ..).symm

variable (L : Vec Ideal S6 .i32) (X : Vec Ideal S6x256x1152 .bf16) (b : Fin 6) (r : Fin 256)

theorem rows_at (u : Fin 32) (k : Fin 1152) (p : Fin 8) (h : r.val = 32 * p.val + u.val) : rowsOf X b p (ix3 0 u k) = X (ix3 b r k) := by
  unfold rowsOf VecWindow.window
  refine congrArg X (funext fun a => Fin.ext ?_)
  match a with
  | 0 => show b.val + 1 * 0 = b.val; omega
  | 1 => show 32 * p.val + 1 * u.val = r.val; omega
  | 2 => show 0 + 1 * k.val = k.val; omega

theorem len_at : lenOf (F := Ideal) L b = L (ix1 b) := by
  unfold lenOf VecWindow.window
  refine congrArg L (funext fun a => Fin.ext ?_)
  match a with
  | 0 => show b.val + 1 * 0 = b.val; omega

/-- The kernel's row scale, in any lane. -/
theorem XS_at (l : Fin 128) : XS (F := Ideal) L X (ix3 b r l) = scale (live r.val (L (ix1 b))) (amax fun k : Fin 1152 => X (ix3 b r k)) := by
  have h : r.val = 32 * (r.val / 32) + r.val % 32 := by omega
  show chunkS (F := Ideal) (rowsOf X b ⟨r.val / 32, _⟩) (lenOf (F := Ideal) L b) (BitVec.ofNat 32 (32 * (r.val / 32))) (ix3 (0 : Fin 1) (⟨r.val % 32, _⟩ : Fin 32) l) = _
  rw [chunkS_at, live_eq, len_at, ← h]
  congr 2
  funext k
  exact rows_at X b r _ k _ h

/-- The kernel's row code. -/
theorem XC_at (k : Fin 1152) : XC (F := Ideal) L X (ix3 b r k)
    = code (live r.val (L (ix1 b))) (X (ix3 b r k)) (amax fun k : Fin 1152 => X (ix3 b r k)) := by
  have h : r.val = 32 * (r.val / 32) + r.val % 32 := by omega
  show chunkC (F := Ideal) (rowsOf X b ⟨r.val / 32, _⟩) (lenOf (F := Ideal) L b) (BitVec.ofNat 32 (32 * (r.val / 32))) (ix3 (0 : Fin 1) (⟨r.val % 32, _⟩ : Fin 32) k) = _
  rw [chunkC_at, live_eq, len_at, ← h, rows_at X b r _ k _ h]
  congr 2
  funext k
  exact rows_at X b r _ k _ h

end Cert.Spec

end
-- ==== Proof.RefVals.lean ====
module

public import proofs.«01_k».proof.Proof.RefRows

/-! # The reference's gated product: codes and scales read at an index -/

@[expose] public section

set_option maxRecDepth 16384
set_option maxHeartbeats 400000

noncomputable section

namespace Cert.Spec

open Idealize.ShloMosaic Idealize.ShloMosaic.TcCoe Idealize.ShloMosaic.Pointwise

/-- One column of a matrix product, scaled by its row's and its column's scale. -/
def lin {K : ℕ} (C W : Fin K → EReal) (s w : EReal) : EReal := (∑ k, C k * W k) * s * w

section generic
variable {F : FTy → Type} [FloatOps F]
/-- The gate through the activation, times the other half. -/
def gel (g u : F .f32) : F .f32 :=
  FloatOps.mulf (FloatOps.mulf g (FloatOps.mulf (Scalar.ofBits .f32 0x3F000000#32) (FloatOps.addf (Scalar.ofBits .f32 0x3F800000#32)
    (FloatOps.tanh (FloatOps.mulf (Scalar.ofBits .f32 0x3F4C422A#32) (FloatOps.addf g (FloatOps.mulf (Scalar.ofBits .f32 0x3D372713#32) (FloatOps.mulf g (FloatOps.mulf g g))))))))) u
end generic

section ref
open Cert.ReferenceIdeal Cert.ReferenceIdeal.Gen

section casts
variable {α : Type} (b : Fin 6) (r : Fin 256)
theorem cast_in (v : S6x256x1152.Idx → α) (k : Fin 1152) (i : Fin 1536) (hi : i.val = 256 * b.val + r.val) :
    shapeCast S1536x1152 v shapeCasts_S6x256x1152_S1536x1152 (ix2 i k) = v (ix3 b r k) :=
  shapeCast_apply _ _ _ _ (by
    rw [Shape.rowMajor_val_three, Shape.rowMajor_val_two]
    show (b.val * 256 + r.val) * 1152 + k.val = i.val * 1152 + k.val
    omega)
theorem cast_out (v : S1536x13824.Idx → α) (c : Fin 13824) (i : Fin 1536) (hi : i.val = 256 * b.val + r.val) :
    shapeCast S6x256x13824 v shapeCasts_S1536x13824_S6x256x13824 (ix3 b r c) = v (ix2 i c) :=
  shapeCast_apply _ _ _ _ (by
    rw [Shape.rowMajor_val_three, Shape.rowMajor_val_two]
    show i.val * 13824 + c.val = (b.val * 256 + r.val) * 13824 + c.val
    omega)
theorem cast_grp (v : S6x256x6912.Idx → α) (g : Fin 54) (l : Fin 128) (c : Fin 6912) (hc : c.val = 128 * g.val + l.val) :
    shapeCast S6x256x54x128 v shapeCasts_S6x256x6912_S6x256x54x128 (ix4 b r g l) = v (ix3 b r c) :=
  shapeCast_apply _ _ _ _ (by
    rw [Shape.rowMajor_val_three, Shape.rowMajor_val_four]
    show (b.val * 256 + r.val) * 6912 + c.val = ((b.val * 256 + r.val) * 54 + g.val) * 128 + l.val
    omega)
theorem cast_ungrp (v : S6x256x54x128.Idx → α) (g : Fin 54) (l : Fin 128) (c : Fin 6912) (hc : c.val = 128 * g.val + l.val) :
    shapeCast S6x256x6912 v shapeCasts_S6x256x54x128_S6x256x6912 (ix3 b r c) = v (ix4 b r g l) :=
  shapeCast_apply _ _ _ _ (by
    rw [Shape.rowMajor_val_three, Shape.rowMajor_val_four]
    show ((b.val * 256 + r.val) * 54 + g.val) * 128 + l.val = (b.val * 256 + r.val) * 6912 + c.val
    omega)
theorem cast_scale (v : S6x256x54x1.Idx → α) (g : Fin 54) : shapeCast S6x256x54 v shapeCasts_S6x256x54x1_S6x256x54 (ix3 b r g) = v (ix4 b r g 0) :=
  shapeCast_apply _ _ _ _ (by
    rw [Shape.rowMajor_val_three, Shape.rowMajor_val_four]
    show ((b.val * 256 + r.val) * 54 + g.val) * 1 + 0 = (b.val * 256 + r.val) * 54 + g.val
    omega)
theorem cast_max (v : S6x256x54.Idx → α) (g : Fin 54) : shapeCast S6x256x54x1 v shapeCasts_S6x256x54_S6x256x54x1 (ix4 b r g 0) = v (ix3 b r g) :=
  shapeCast_apply _ _ _ _ (by
    rw [Shape.rowMajor_val_three, Shape.rowMajor_val_four]
    show (b.val * 256 + r.val) * 54 + g.val = ((b.val * 256 + r.val) * 54 + g.val) * 1 + 0
    omega)
end casts

section generic
variable {F : FTy → Type} [FloatOps F]
variable (v6 : IVec S6x256x1 1) (v30 : FVec F S6x256x1 .f32) (C : FVec F S6x256x1152 .fp8e4m3) (W : Vec F S1152x13824 .fp8e4m3) (w : Vec F S1x13824 .f32)
/-- The reference's matrix product. -/
def rD : FVec F S1536x13824 .f32 :=
  matmul dot_S1536x1152_S1152x13824_S1536x13824_1_0_0_1_n_n none (shapeCast S1536x1152 C shapeCasts_S6x256x1152_S1536x1152) W (constant S1536x13824 .f32 0x00000000#32)
/-- The reference's matrix product, scaled. -/
def rG : FVec F S6x256x13824 .f32 :=
  mulf (mulf (shapeCast S6x256x13824 (rD C W) shapeCasts_S1536x13824_S6x256x13824) (broadcastTo S6x256x13824 v30 broadcasts_S6x256x1_S6x256x13824))
    (broadcastTo S6x256x13824 (shapeCast S1x1x13824 (shapeCast S1x13824 w shapeCasts_S1x13824_S1x13824) shapeCasts_S1x13824_S1x1x13824) broadcasts_S1x1x13824_S6x256x13824)
/-- The reference's gated product. -/
def rH : FVec F S6x256x6912 .f32 := fun j =>
  gel (extractStridedSlice S6x256x6912 ![0, 0, 0] (rG v30 C W w) slices_S6x256x13824_o0_0_0_S6x256x6912 j)
    (extractStridedSlice S6x256x6912 ![0, 0, 6912] (rG v30 C W w) slices_S6x256x13824_o0_0_6912_S6x256x6912 j)
/-- The gated product in groups of 128 columns. -/
def rGrp : FVec F S6x256x54x128 .f32 := shapeCast S6x256x54x128 (rH v30 C W w) shapeCasts_S6x256x6912_S6x256x54x128
/-- The groups' largest magnitudes. -/
def rMx (v : FVec F S6x256x54x128 .f32) : FVec F S6x256x54 .f32 := multiReduction .maximumf [3] S6x256x54 (absf v) 0xFF800000#32 reduces_S6x256x54x128_S6x256x54 (.inl rfl) rfl
/-- The groups' largest magnitudes over 448. -/
def rA (v : FVec F S6x256x54x128 .f32) : FVec F S6x256x54x1 .f32 :=
  mulf (shapeCast S6x256x54x1 (rMx v) shapeCasts_S6x256x54_S6x256x54x1) (broadcast S6x256x54x1 (Scalar.ofBits .f32 0x3B124925#32))
theorem rA_eq (v : FVec F S6x256x54x128 .f32) (j : S6x256x54x1.Idx) :
    rA v j = FloatOps.mulf (shapeCast S6x256x54x1 (rMx v) shapeCasts_S6x256x54_S6x256x54x1 j) (Scalar.ofBits .f32 0x3B124925#32) := rfl

/-- One over the groups' scales. -/
def rInv (t : FVec F S6x256x54x1 .f32) : FVec F S6x256x54x1 .f32 := fun j => inv (t j)
/-- The groups' scales. -/
def rSc (t : FVec F S6x256x54x1 .f32) : FVec F S6x256x54x1 .f32 := fun j => sc (t j)

variable (v39 v42 : FVec F S6x256x1152 .f32) (v41 : IVec S6x256x1152 1)
theorem pay12_eq : k0_pay12 v30 v39 v41 v42 W w = rGrp v30 (k0_pay11 v39 v41 v42) W w := rfl
theorem pay14_eq : k0_pay14 v30 v39 v41 v42 W w = rA (rGrp v30 (k0_pay11 v39 v41 v42) W w) := rfl

theorem pay1_eq (j : S6x256x54x1.Idx) : k0_pay1 (k0_pay14 v30 v39 v41 v42 W w) (k0_pay15 v30 v39 v41 v42 W w) (k0_pay16 v30 v39 v41 v42 W w) (Scalar.ofBits .f32 0x7B800000#32) j
    = ex (k0_pay14 v30 v39 v41 v42 W w j) := rfl

theorem pay2_eq : k0_pay2 (k0_pay12 v30 v39 v41 v42 W w) (k0_pay13 v6) (k0_pay14 v30 v39 v41 v42 W w) (k0_pay15 v30 v39 v41 v42 W w) (k0_pay16 v30 v39 v41 v42 W w) (Scalar.ofBits .f32 0x7B800000#32)
    = shapeCast S6x256x6912 (truncf .fp8e4m3 (select (broadcastTo S6x256x54x128 (shapeCast S6x256x1x1 (k0_pay13 v6) shapeCasts_S6x256x1x1_S6x256x1x1) broadcasts_S6x256x1x1_S6x256x54x128)
        (minimumf (broadcast S6x256x54x128 (Scalar.ofBits .f32 0x43E00000#32)) (maximumf (broadcast S6x256x54x128 (Scalar.ofBits .f32 0xC3E00000#32))
          (mulf (k0_pay12 v30 v39 v41 v42 W w) (broadcastTo S6x256x54x128 (rInv (k0_pay14 v30 v39 v41 v42 W w)) broadcasts_S6x256x54x1_S6x256x54x128))))
        (broadcast S6x256x54x128 (Scalar.ofBits .f32 0x00000000#32))) bitsLt_fp8e4m3_f32) shapeCasts_S6x256x54x128_S6x256x6912 := rfl

theorem pay3_eq : k0_pay3 (k0_pay13 v6) (k0_pay14 v30 v39 v41 v42 W w) (k0_pay15 v30 v39 v41 v42 W w) (k0_pay16 v30 v39 v41 v42 W w) (Scalar.ofBits .f32 0x7B800000#32)
    = shapeCast S6x256x54 (select (broadcastTo S6x256x54x1 (shapeCast S6x256x1x1 (k0_pay13 v6) shapeCasts_S6x256x1x1_S6x256x1x1) broadcasts_S6x256x1x1_S6x256x54x1)
        (rSc (k0_pay14 v30 v39 v41 v42 W w)) (broadcast S6x256x54x1 (Scalar.ofBits .f32 0x00000000#32))) shapeCasts_S6x256x54x1_S6x256x54 := rfl
end generic

variable (v6 : IVec S6x256x1 1) (v30 : FVec Ideal S6x256x1 .f32) (C : FVec Ideal S6x256x1152 .fp8e4m3) (W : Vec Ideal S1152x13824 .fp8e4m3) (w : Vec Ideal S1x13824 .f32)
variable (b : Fin 6) (r : Fin 256)

theorem rD_at (i : Fin 1536) (hi : i.val = 256 * b.val + r.val) (c : Fin 13824) :
    rD (F := Ideal) C W (ix2 i c) = ∑ k : Fin 1152, C (ix3 b r k) * W (ix2 k c) := by
  unfold rD
  have : ∀ k : Fin 1152, shapeCast S1536x1152 C shapeCasts_S6x256x1152_S1536x1152 (ix2 i k) = C (ix3 b r k) := fun k => cast_in b r C k i hi
  revert this
  generalize shapeCast S1536x1152 C shapeCasts_S6x256x1152_S1536x1152 = C'
  intro this
  pointwise
  exact Finset.sum_congr rfl fun k _ => by rw [this]

theorem rG_at (c : Fin 13824) : rG (F := Ideal) v30 C W w (ix3 b r c)
    = lin (fun k : Fin 1152 => C (ix3 b r k)) (fun k => W (ix2 k c)) (v30 (ix3 b r 0)) (w (ix2 0 c)) := by
  have h := (cast_out b r (rD (F := Ideal) C W) c ⟨256 * b.val + r.val, by omega⟩ rfl).trans (rD_at C W b r ⟨256 * b.val + r.val, by omega⟩ rfl c)
  revert h
  unfold rG
  generalize shapeCast S6x256x13824 (rD (F := Ideal) C W) shapeCasts_S1536x13824_S6x256x13824 = P
  intro h
  pointwise
  rw [h]
  unfold lin
  rfl

/-- The gated product's value at a column. -/
def hAt (C : Fin 1152 → EReal) (s : EReal) (W : Fin 1152 → Fin 13824 → EReal) (w : Fin 13824 → EReal) (c : Fin 6912) : EReal :=
  gel (F := Ideal) (lin C (fun k => W k ⟨c.val, by omega⟩) s (w ⟨c.val, by omega⟩))
    (lin C (fun k => W k ⟨6912 + c.val, by omega⟩) s (w ⟨6912 + c.val, by omega⟩))

/-- The gated product of a row. -/
def hRow (b : Fin 6) (r : Fin 256) : Fin 6912 → EReal :=
  hAt (fun k => C (ix3 b r k)) (v30 (ix3 b r 0)) (fun k c => W (ix2 k c)) (fun c => w (ix2 0 c))

theorem slice_lo (P : FVec Ideal S6x256x13824 .f32) (c : Fin 6912) :
    extractStridedSlice S6x256x6912 ![0, 0, 0] P slices_S6x256x13824_o0_0_0_S6x256x6912 (ix3 b r c) = P (ix3 b r ⟨c.val, by omega⟩) := by
  pointwise
theorem slice_hi (P : FVec Ideal S6x256x13824 .f32) (c : Fin 6912) :
    extractStridedSlice S6x256x6912 ![0, 0, 6912] P slices_S6x256x13824_o0_0_6912_S6x256x6912 (ix3 b r c) = P (ix3 b r ⟨6912 + c.val, by omega⟩) := by
  pointwise

theorem rH_at (c : Fin 6912) : rH (F := Ideal) v30 C W w (ix3 b r c) = hRow v30 C W w b r c := by
  unfold rH
  rw [slice_lo, slice_hi, rG_at, rG_at]
  unfold hRow hAt
  rfl

theorem rGrp_at (g : Fin 54) (l : Fin 128) : rGrp (F := Ideal) v30 C W w (ix4 b r g l) = hRow v30 C W w b r ⟨128 * g.val + l.val, by omega⟩ := by
  unfold rGrp
  rw [cast_grp b r _ g l ⟨128 * g.val + l.val, by omega⟩ rfl, rH_at]

theorem rMx_at (v : FVec Ideal S6x256x54x128 .f32) (g : Fin 54) : rMx (F := Ideal) v (ix3 b r g)
    = Finset.fold max (Ideal.ofBits .f32 0xFF800000#32) (fun l : Fin 128 => FloatOps.absf (F := Ideal) (φ := .f32) (v (ix4 b r g l))) Finset.univ := by
  pointwise [rMx]

theorem rA_at (v : FVec Ideal S6x256x54x128 .f32) (g : Fin 54) : rA (F := Ideal) v (ix4 b r g 0) = amax fun l : Fin 128 => v (ix4 b r g l) := by
  rw [rA_eq, cast_max, rMx_at]
  unfold amax
  exact Ideal.mulf_def _ _

theorem pay13_at (g : Fin 54) (l : Fin 128) : k0_pay13 v6 (ix4 b r 0 0) = v6 (ix3 b r 0) := by
  pointwise [k0_pay13]

/-- A group's magnitude. -/
def grpMax (f : Fin 6912 → EReal) (g : Fin 54) : EReal := amax fun l : Fin 128 => f ⟨128 * g.val + l.val, by omega⟩

variable (v39 v42 : FVec Ideal S6x256x1152 .f32) (v41 : IVec S6x256x1152 1)

theorem pay14_grp (g : Fin 54) : Cert.ReferenceIdeal.Gen.k0_pay14 (F := Ideal) v30 v39 v41 v42 W w (ix4 b r g 0) = grpMax (hRow v30 (k0_pay11 (F := Ideal) v39 v41 v42) W w b r) g := by
  rw [pay14_eq, rA_at]
  unfold grpMax
  congr 1
  funext l
  exact rGrp_at ..

theorem quant_at (A : FVec Ideal S6x256x54x128 .f32) (B : FVec Ideal S6x256x54x1 .f32) (M : IVec S6x256x1x1 1) (g : Fin 54) (l : Fin 128) :
    truncf .fp8e4m3 (select (broadcastTo S6x256x54x128 (shapeCast S6x256x1x1 M shapeCasts_S6x256x1x1_S6x256x1x1) broadcasts_S6x256x1x1_S6x256x54x128)
        (minimumf (broadcast S6x256x54x128 (Scalar.ofBits (F := Ideal) .f32 0x43E00000#32)) (maximumf (broadcast S6x256x54x128 (Scalar.ofBits .f32 0xC3E00000#32))
          (mulf A (broadcastTo S6x256x54x128 B broadcasts_S6x256x54x1_S6x256x54x128))))
        (broadcast S6x256x54x128 (Scalar.ofBits .f32 0x00000000#32))) bitsLt_fp8e4m3_f32 (ix4 b r g l)
      = Scalar.select (M (ix4 b r 0 0)) (clip (A (ix4 b r g l)) (B (ix4 b r g 0))) 0 := by
  pointwise
  rfl

/-- The reference's code of the gated product. -/
theorem ref_hcode (g : Fin 54) (l : Fin 128) (c : Fin 6912) (hc : c.val = 128 * g.val + l.val) :
    k0_pay2 (F := Ideal) (k0_pay12 (F := Ideal) v30 v39 v41 v42 W w) (k0_pay13 v6) (k0_pay14 (F := Ideal) v30 v39 v41 v42 W w) (k0_pay15 (F := Ideal) v30 v39 v41 v42 W w) (k0_pay16 (F := Ideal) v30 v39 v41 v42 W w) (Scalar.ofBits (F := Ideal) .f32 0x7B800000#32) (ix3 b r c)
    = code (v6 (ix3 b r 0)) (hRow v30 (k0_pay11 (F := Ideal) v39 v41 v42) W w b r c)
        (grpMax (hRow v30 (k0_pay11 (F := Ideal) v39 v41 v42) W w b r) g) := by
  have hb : 128 * g.val + l.val < 6912 := by have := g.isLt; have := l.isLt; omega
  obtain rfl : c = ⟨128 * g.val + l.val, hb⟩ := Fin.ext hc
  rw [pay2_eq, cast_ungrp b r _ g l _ rfl, quant_at, pay12_eq, rGrp_at, pay13_at v6 b r g l]
  unfold rInv code
  rw [pay14_grp]

/-- The reference's scale of the gated product. -/
theorem ref_hscale (g : Fin 54) :
    k0_pay3 (F := Ideal) (k0_pay13 v6) (k0_pay14 (F := Ideal) v30 v39 v41 v42 W w) (k0_pay15 (F := Ideal) v30 v39 v41 v42 W w) (k0_pay16 (F := Ideal) v30 v39 v41 v42 W w) (Scalar.ofBits (F := Ideal) .f32 0x7B800000#32) (ix3 b r g)
    = scale (v6 (ix3 b r 0)) (grpMax (hRow v30 (k0_pay11 (F := Ideal) v39 v41 v42) W w b r) g) := by
  rw [pay3_eq, cast_scale]
  have h2 : rSc (F := Ideal) (k0_pay14 (F := Ideal) v30 v39 v41 v42 W w) (ix4 b r g 0) = sc (F := Ideal) (grpMax (hRow v30 (k0_pay11 (F := Ideal) v39 v41 v42) W w b r) g) := by
    unfold rSc; rw [pay14_grp]
  have h3 := pay13_at v6 b r g 0
  revert h2 h3
  generalize rSc (F := Ideal) (k0_pay14 (F := Ideal) v30 v39 v41 v42 W w) = B
  generalize k0_pay13 v6 = M
  intro h2 h3
  pointwise
  rw [h2, h3]
  unfold scale
  rfl
end ref

end Cert.Spec

end
-- ==== Proof.KerVals.lean ====
module

public import proofs.«01_k».proof.Proof.KerRows
public import proofs.«01_k».proof.Proof.RefVals

/-! # The kernel's gated product: one block's codes and scales read at an index -/

@[expose] public section

set_option maxRecDepth 16384
set_option maxHeartbeats 400000

noncomputable section

namespace Cert.Spec

open Idealize.ShloMosaic Idealize.ShloMosaic.TcCoe Idealize.ShloMosaic.Pointwise
open Cert.KernelIdeal Cert.KernelIdeal.Gen Cert.KernelIdeal.Blk

section generic
variable {F : FTy → Type} [FloatOps F]
/-- The gate through the activation, times the other half, in the kernel's order. -/
def gelK (g u : F .f32) : F .f32 :=
  FloatOps.mulf (FloatOps.mulf g (FloatOps.mulf (Scalar.ofBits .f32 0x3F000000#32) (FloatOps.addf (Scalar.ofBits .f32 0x3F800000#32)
    (FloatOps.tanh (FloatOps.mulf (Scalar.ofBits .f32 0x3F4C422A#32) (FloatOps.addf g (FloatOps.mulf (Scalar.ofBits .f32 0x3D372713#32) (FloatOps.mulf (FloatOps.mulf g g) g))))))))  u

variable (x : Vec F S1x128x1152 .fp8e4m3) (w1 w2 : Vec F S1152x256 .fp8e4m3) (xs : Vec F S1x128x128 .f32)
  (s1 s2 : Vec F S1x256 .f32) (m : IVec S128x128 1)

theorem hVal_eq (j : S128x256.Idx) : hVal x w1 w2 xs s1 s2 j = gelK (k0_pay23 x w1 xs s1 j) (k0_pay24 x w2 xs s2 j) := rfl

/-- The rows' largest magnitudes over 448, in every lane. -/
def kA (v : FVec F S128x128 .f32) : FVec F S128x128 .f32 :=
  mulf (broadcastTo S128x128 (shapeCast S128x1 (shapeCast S128x1 (multiReduction .maximumf [1] S128 (absf v) 0xFF800000#32 reduces_S128x128_S128 (.inl rfl) rfl) shapeCasts_S128_S128x1) shapeCasts_S128x1_S128x1) broadcasts_S128x1_S128x128)
    (broadcast S128x128 (Scalar.ofBits .f32 0x3B124925#32))
theorem loA_eq : loA x w1 w2 xs s1 s2 = kA (lo x w1 w2 xs s1 s2) := rfl
theorem hiA_eq : hiA x w1 w2 xs s1 s2 = kA (hi x w1 w2 xs s1 s2) := rfl
theorem lo_eq : lo x w1 w2 xs s1 s2 = extractStridedSlice S128x128 ![0, 0] (hVal x w1 w2 xs s1 s2) slices_S128x256_o0_0_S128x128 := rfl
theorem hi_eq : hi x w1 w2 xs s1 s2 = extractStridedSlice S128x128 ![0, 128] (hVal x w1 w2 xs s1 s2) slices_S128x256_o0_128_S128x128 := rfl

theorem pay32_eq (j : S128x128.Idx) : k0_pay32 (loA x w1 w2 xs s1 s2) (loQ x w1 w2 xs s1 s2) (loC x w1 w2 xs s1 s2) j
    = fld (cap (loA x w1 w2 xs s1 s2 j) (find (loA x w1 w2 xs s1 s2 j))) := rfl
theorem pay41_eq (j : S128x128.Idx) : k0_pay41 (hiA x w1 w2 xs s1 s2) (hiQ x w1 w2 xs s1 s2) k0_pay40 j
    = fld (cap (hiA x w1 w2 xs s1 s2 j) (find (hiA x w1 w2 xs s1 s2 j))) := rfl

/-- The codes of the rows `v` under the inverse scales `i`. -/
def kQ (m : IVec S128x128 1) (v i : FVec F S128x128 .f32) : FVec F S1x128x128 .fp8e4m3 :=
  shapeCast S1x128x128 (truncf .fp8e4m3 (select m (extf .f32 (truncf .fp8e4m3
    (minimumf (broadcast S128x128 (Scalar.ofBits .f32 0x43E00000#32)) (maximumf (broadcast S128x128 (Scalar.ofBits .f32 0xC3E00000#32)) (mulf v i))) bitsLt_fp8e4m3_f32) bitsLt_fp8e4m3_f32)
    (broadcast S128x128 (Scalar.ofBits .f32 0x00000000#32))) bitsLt_fp8e4m3_f32) shapeCasts_S128x128_S1x128x128
/-- The scales of the live rows. -/
def kZ (m : IVec S128x128 1) (s : FVec F S128x128 .f32) : FVec F S128x128 .f32 := select m s (broadcast S128x128 (Scalar.ofBits .f32 0x00000000#32))

theorem code0_eq : code0 x w1 w2 xs s1 s2 m = kQ m (lo x w1 w2 xs s1 s2) (fun j => iBits (loA x w1 w2 xs s1 s2 j)) := by
  have h : (fun j => iBits (loA x w1 w2 xs s1 s2 j))
      = bitcastToFloat .f32 (subi (broadcast S128x128 2130706432#32) (k0_pay32 (loA x w1 w2 xs s1 s2) (loQ x w1 w2 xs s1 s2) (loC x w1 w2 xs s1 s2))) := by
    funext j
    show iBits _ = Scalar.ofBits .f32 (IntOp.subi 2130706432#32 (k0_pay32 (loA x w1 w2 xs s1 s2) (loQ x w1 w2 xs s1 s2) (loC x w1 w2 xs s1 s2) j))
    rw [pay32_eq]; rfl
  rw [h]; rfl
theorem code1_eq : code1 x w1 w2 xs s1 s2 m = kQ m (hi x w1 w2 xs s1 s2) (fun j => iBits (hiA x w1 w2 xs s1 s2 j)) := by
  have h : (fun j => iBits (hiA x w1 w2 xs s1 s2 j))
      = bitcastToFloat .f32 (subi (broadcast S128x128 2130706432#32) (k0_pay41 (hiA x w1 w2 xs s1 s2) (hiQ x w1 w2 xs s1 s2) k0_pay40)) := by
    funext j
    show iBits _ = Scalar.ofBits .f32 (IntOp.subi 2130706432#32 (k0_pay41 (hiA x w1 w2 xs s1 s2) (hiQ x w1 w2 xs s1 s2) k0_pay40 j))
    rw [pay41_eq]; rfl
  rw [h]; rfl
theorem sc0_eq : sc0 x w1 w2 xs s1 s2 m = kZ m (fun j => sBits (loA x w1 w2 xs s1 s2 j)) := by
  have h : (fun j => sBits (loA x w1 w2 xs s1 s2 j))
      = bitcastToFloat .f32 (k0_pay32 (loA x w1 w2 xs s1 s2) (loQ x w1 w2 xs s1 s2) (loC x w1 w2 xs s1 s2)) := by
    funext j
    show sBits _ = Scalar.ofBits .f32 (k0_pay32 (loA x w1 w2 xs s1 s2) (loQ x w1 w2 xs s1 s2) (loC x w1 w2 xs s1 s2) j)
    rw [pay32_eq]; rfl
  rw [h]; rfl
theorem sc1_eq : sc1 x w1 w2 xs s1 s2 m = kZ m (fun j => sBits (hiA x w1 w2 xs s1 s2 j)) := by
  have h : (fun j => sBits (hiA x w1 w2 xs s1 s2 j))
      = bitcastToFloat .f32 (k0_pay41 (hiA x w1 w2 xs s1 s2) (hiQ x w1 w2 xs s1 s2) k0_pay40) := by
    funext j
    show sBits _ = Scalar.ofBits .f32 (k0_pay41 (hiA x w1 w2 xs s1 s2) (hiQ x w1 w2 xs s1 s2) k0_pay40 j)
    rw [pay41_eq]; rfl
  rw [h]; rfl

/-- The scale lanes with the scales `s` put into the lane `n`. -/
def kL (s : FVec F S128x128 .f32) (n : BitVec 32) (old : Vec F S1x128x128 .f32) : FVec F S1x128x128 .f32 :=
  shapeCast S1x128x128 (select (cmpi .eq (iota .tc S128x128 32 [1] iota_S128x128_d1_w32) (broadcast S128x128 n)) s
    (shapeCast S128x128 old shapeCasts_S1x128x128_S128x128)) shapeCasts_S128x128_S1x128x128
theorem lane0_eq (a0 : BitVec 32) (old : Vec F S1x128x128 .f32) :
    lane0 x w1 w2 xs s1 s2 m a0 old = kL (sc0 x w1 w2 xs s1 s2 m) (Scalar.addi (Scalar.muli a0 2#32) 0#32) old := rfl
theorem lane1_eq (a0 : BitVec 32) (old : Vec F S1x128x128 .f32) :
    lane1 x w1 w2 xs s1 s2 m a0 old = kL (sc1 x w1 w2 xs s1 s2 m) (Scalar.addi (Scalar.muli a0 2#32) 1#32) old := rfl
end generic

theorem gelK_eq (g u : EReal) : gelK (F := Ideal) g u = gel (F := Ideal) g u := by
  have h : FloatOps.mulf (F := Ideal) (φ := .f32) (FloatOps.mulf (F := Ideal) (φ := .f32) g g) g = FloatOps.mulf (F := Ideal) (φ := .f32) g (FloatOps.mulf (F := Ideal) (φ := .f32) g g) := by
    rw [Ideal.mulf_def, Ideal.mulf_def, Ideal.mulf_def, mul_comm]
  unfold gelK gel
  rw [h]

variable (x : Vec Ideal S1x128x1152 .fp8e4m3) (w1 w2 : Vec Ideal S1152x256 .fp8e4m3) (xs : Vec Ideal S1x128x128 .f32)
  (s1 s2 : Vec Ideal S1x256 .f32) (m : IVec S128x128 1) (i : Fin 128)

theorem pay23_at (c : Fin 256) : k0_pay23 (F := Ideal) x w1 xs s1 (ix2 i c)
    = lin (fun k : Fin 1152 => x (ix3 0 i k)) (fun k => w1 (ix2 k c)) (xs (ix3 0 i 0)) (s1 (ix2 0 c)) := by
  pointwise [k0_pay23, k0_pay20, k0_pay21]
  unfold lin
  rfl
theorem pay24_at (c : Fin 256) : k0_pay24 (F := Ideal) x w1 xs s1 (ix2 i c)
    = lin (fun k : Fin 1152 => x (ix3 0 i k)) (fun k => w1 (ix2 k c)) (xs (ix3 0 i 0)) (s1 (ix2 0 c)) := by
  pointwise [k0_pay24, k0_pay20, k0_pay21]
  unfold lin
  rfl

/-- The block's gated product at a row and a column. -/
def hBlk (C : Fin 1152 → EReal) (s : EReal) (W1 W2 : Fin 1152 → Fin 256 → EReal) (v1 v2 : Fin 256 → EReal) (c : Fin 256) : EReal :=
  gel (F := Ideal) (lin C (fun k => W1 k c) s (v1 c)) (lin C (fun k => W2 k c) s (v2 c))

/-- The block's gated product. -/
def hK (c : Fin 256) : EReal :=
  hBlk (fun k => x (ix3 0 i k)) (xs (ix3 0 i 0)) (fun k c => w1 (ix2 k c)) (fun k c => w2 (ix2 k c)) (fun c => s1 (ix2 0 c)) (fun c => s2 (ix2 0 c)) c

theorem hVal_at (c : Fin 256) : hVal (F := Ideal) x w1 w2 xs s1 s2 (ix2 i c) = hK x w1 w2 xs s1 s2 i c := by
  rw [hVal_eq, pay23_at, pay24_at, gelK_eq]
  unfold hK hBlk
  rfl

theorem cut_lo (v : FVec Ideal S128x256 .f32) (l : Fin 128) : extractStridedSlice S128x128 ![0, 0] v slices_S128x256_o0_0_S128x128 (ix2 i l) = v (ix2 i ⟨l.val, by omega⟩) := by
  pointwise
theorem cut_hi (v : FVec Ideal S128x256 .f32) (l : Fin 128) : extractStridedSlice S128x128 ![0, 128] v slices_S128x256_o0_128_S128x128 (ix2 i l) = v (ix2 i ⟨128 + l.val, by omega⟩) := by
  pointwise

theorem lo_at (l : Fin 128) : lo (F := Ideal) x w1 w2 xs s1 s2 (ix2 i l) = hK x w1 w2 xs s1 s2 i ⟨l.val, by omega⟩ := by
  rw [lo_eq, cut_lo, hVal_at]
theorem hi_at (l : Fin 128) : hi (F := Ideal) x w1 w2 xs s1 s2 (ix2 i l) = hK x w1 w2 xs s1 s2 i ⟨128 + l.val, by omega⟩ := by
  rw [hi_eq, cut_hi, hVal_at]

theorem kA_at (v : FVec Ideal S128x128 .f32) (l : Fin 128) : kA (F := Ideal) v (ix2 i l) = amax fun l : Fin 128 => v (ix2 i l) := by
  pointwise [kA]
  unfold amax
  rfl

theorem loA_at (l : Fin 128) : loA (F := Ideal) x w1 w2 xs s1 s2 (ix2 i l) = amax fun l : Fin 128 => hK x w1 w2 xs s1 s2 i ⟨l.val, by omega⟩ := by
  rw [loA_eq, kA_at]
  congr 1; funext l; exact lo_at ..
theorem hiA_at (l : Fin 128) : hiA (F := Ideal) x w1 w2 xs s1 s2 (ix2 i l) = amax fun l : Fin 128 => hK x w1 w2 xs s1 s2 i ⟨128 + l.val, by omega⟩ := by
  rw [hiA_eq, kA_at]
  congr 1; funext l; exact hi_at ..

theorem kQ_at (v w : FVec Ideal S128x128 .f32) (l : Fin 128) : kQ (F := Ideal) m v w (ix3 0 i l) = Scalar.select (m (ix2 i l)) (clip (v (ix2 i l)) (w (ix2 i l))) 0 := by
  pointwise [kQ]
  rfl
theorem kZ_at (v : FVec Ideal S128x128 .f32) (l : Fin 128) : kZ (F := Ideal) m v (ix2 i l) = Scalar.select (m (ix2 i l)) (v (ix2 i l)) 0 := by
  pointwise [kZ]
theorem kL_at (s : FVec Ideal S128x128 .f32) (n : BitVec 32) (old : Vec Ideal S1x128x128 .f32) (l : Fin 128) :
    kL (F := Ideal) s n old (ix3 0 i l) = Scalar.select (IntOp.cmpi .eq (BitVec.ofNat 32 l.val) n) (s (ix2 i l)) (old (ix3 0 i l)) := by
  pointwise [kL]

theorem code0_at (l : Fin 128) : code0 (F := Ideal) x w1 w2 xs s1 s2 m (ix3 0 i l)
    = code (m (ix2 i l)) (hK x w1 w2 xs s1 s2 i ⟨l.val, by omega⟩) (amax fun l : Fin 128 => hK x w1 w2 xs s1 s2 i ⟨l.val, by omega⟩) := by
  rw [code0_eq, kQ_at, lo_at, loA_at, (scale_eq _).2]
  unfold code
  rfl
theorem code1_at (l : Fin 128) : code1 (F := Ideal) x w1 w2 xs s1 s2 m (ix3 0 i l)
    = code (m (ix2 i l)) (hK x w1 w2 xs s1 s2 i ⟨128 + l.val, by omega⟩) (amax fun l : Fin 128 => hK x w1 w2 xs s1 s2 i ⟨128 + l.val, by omega⟩) := by
  rw [code1_eq, kQ_at, hi_at, hiA_at, (scale_eq _).2]
  unfold code
  rfl
theorem sc0_at (l : Fin 128) : sc0 (F := Ideal) x w1 w2 xs s1 s2 m (ix2 i l)
    = scale (m (ix2 i l)) (amax fun l : Fin 128 => hK x w1 w2 xs s1 s2 i ⟨l.val, by omega⟩) := by
  rw [sc0_eq, kZ_at, loA_at, (scale_eq _).1]
  unfold scale
  rfl
theorem sc1_at (l : Fin 128) : sc1 (F := Ideal) x w1 w2 xs s1 s2 m (ix2 i l)
    = scale (m (ix2 i l)) (amax fun l : Fin 128 => hK x w1 w2 xs s1 s2 i ⟨128 + l.val, by omega⟩) := by
  rw [sc1_eq, kZ_at, hiA_at, (scale_eq _).1]
  unfold scale
  rfl

/-- The lanes once both scales are in. -/
theorem lanes_at (a0 : BitVec 32) (old : Vec Ideal S1x128x128 .f32) (l : Fin 128) :
    lane1 (F := Ideal) x w1 w2 xs s1 s2 m a0 (lane0 (F := Ideal) x w1 w2 xs s1 s2 m a0 old) (ix3 0 i l)
      = Scalar.select (IntOp.cmpi .eq (BitVec.ofNat 32 l.val) (Scalar.addi (Scalar.muli a0 2#32) 1#32))
          (scale (m (ix2 i l)) (amax fun l : Fin 128 => hK x w1 w2 xs s1 s2 i ⟨128 + l.val, by omega⟩))
          (Scalar.select (IntOp.cmpi .eq (BitVec.ofNat 32 l.val) (Scalar.addi (Scalar.muli a0 2#32) 0#32))
            (scale (m (ix2 i l)) (amax fun l : Fin 128 => hK x w1 w2 xs s1 s2 i ⟨l.val, by omega⟩)) (old (ix3 0 i l))) := by
  rw [lane1_eq, kL_at, sc1_at, lane0_eq, kL_at, sc0_at]

end Cert.Spec

end
-- ==== Proof.KerBlocks.lean ====
module

public import proofs.«01_k».proof.Proof.KerVals
public import proofs.«01_k».proof.Proof.RunMain

/-! # What the kernel's blocks leave, as the reference states it -/

@[expose] public section

set_option maxRecDepth 16384
set_option maxHeartbeats 400000

noncomputable section

namespace Cert.Spec

open Idealize.ShloMosaic Idealize.ShloMosaic.TcCoe Idealize.ShloMosaic.Pointwise
open Cert.KernelIdeal Cert.KernelIdeal.Gen Cert.KernelIdeal.Blk

theorem toInt_small : ∀ n : Fin 256, (BitVec.ofNat 32 n.val).toInt = (n.val : ℤ) := by decide

/-- A row at or after the first of a dead block is dead. -/
theorem dead_of (len : BitVec 32) (q : Fin 2) (r : Fin 256) (h : 128 * q.val ≤ r.val) (hl : ¬ Live len (128 * q.val)) : live r.val len = 0#1 := by
  have h1 := toInt_small r
  have hq : 128 * q.val < 256 := by have := q.isLt; omega
  have h2 := toInt_small ⟨128 * q.val, hq⟩
  simp only at h2
  unfold Live at hl
  rw [BitVec.slt_iff_toInt_lt, h2] at hl
  have h3 : (BitVec.ofNat 32 r.val).slt len = false := by
    rw [Bool.eq_false_iff]
    intro h
    rw [BitVec.slt_iff_toInt_lt, h1] at h
    omega
  unfold live IntOp.cmpi
  simp only [h3]
  rfl

theorem code_dead (v t : EReal) : code 0#1 v t = 0 := rfl
theorem scale_dead (t : EReal) : scale 0#1 t = 0 := rfl

variable (D : In Ideal) (b : Fin 6) (r : Fin 256)

/-- The gated product of a row in the grid point's 256 columns. -/
def hD : Fin 256 → EReal :=
  hBlk (fun k => D.xc (ix3 b r k)) (D.xs (ix3 b r 0)) (fun k c => D.w1 (ix2 k c)) (fun k c => D.w2 (ix2 k c)) (fun c => D.s1 (ix2 0 c)) (fun c => D.s2 (ix2 0 c))

section block
variable (q : Fin 2) (i : Fin 128) (hr : r.val = 128 * q.val + i.val)
include hr

theorem x_at (k : Fin 1152) : D.x (ev b q) (ix3 0 i k) = D.xc (ix3 b r k) := by
  refine congrArg D.xc (funext fun a => Fin.ext ?_)
  match a with
  | 0 => show b.val + 1 * 0 = b.val; omega
  | 1 => show 128 * q.val + 1 * i.val = r.val; omega
  | 2 => show 0 + 1 * k.val = k.val; omega
theorem s_at (k : Fin 128) : D.s (ev b q) (ix3 0 i k) = D.xs (ix3 b r k) := by
  refine congrArg D.xs (funext fun a => Fin.ext ?_)
  match a with
  | 0 => show b.val + 1 * 0 = b.val; omega
  | 1 => show 128 * q.val + 1 * i.val = r.val; omega
  | 2 => show 0 + 1 * k.val = k.val; omega
theorem part_at (g : Vec Ideal S6x256x128 .f32) (k : Fin 128) : part (ev b q) g (ix3 0 i k) = g (ix3 b r k) := by
  refine congrArg g (funext fun a => Fin.ext ?_)
  match a with
  | 0 => show b.val + 1 * 0 = b.val; omega
  | 1 => show 128 * q.val + 1 * i.val = r.val; omega
  | 2 => show 0 + 1 * k.val = k.val; omega
omit hr in
theorem l_at : D.l (ev b q) = D.len (ix1 b) := by
  refine congrArg D.len (funext fun a => Fin.ext ?_)
  match a with
  | 0 => show b.val + 1 * 0 = b.val; omega
theorem m_at (l : Fin 128) : D.m (ev b q) (ix2 i l) = live r.val (D.len (ix1 b)) := by
  have h : D.m (ev b q) = rowMask (128 * q.val) (D.len (ix1 b)) := by unfold In.m; rw [l_at]
  rw [h, hr, ← live_eq]
  pointwise [rowMask]

theorem hK_eq : hK (D.x (ev b q)) D.w1 D.w2 (D.s (ev b q)) D.s1 D.s2 i = hD D b r := by
  have h1 : (fun k : Fin 1152 => D.x (ev b q) (ix3 0 i k)) = fun k => D.xc (ix3 b r k) := funext fun k => x_at D b r q i hr k
  funext c
  unfold hK hD
  rw [h1, s_at D b r q i hr]

theorem c0_at (l : Fin 128) : D.c0 (ev b q) (ix3 0 i l) = code (live r.val (D.len (ix1 b))) (hD D b r ⟨l.val, by omega⟩) (amax fun l : Fin 128 => hD D b r ⟨l.val, by omega⟩) := by
  unfold In.c0
  rw [code0_at, m_at D b r q i hr, hK_eq D b r q i hr]
theorem c1_at (l : Fin 128) : D.c1 (ev b q) (ix3 0 i l) = code (live r.val (D.len (ix1 b))) (hD D b r ⟨128 + l.val, by omega⟩) (amax fun l : Fin 128 => hD D b r ⟨128 + l.val, by omega⟩) := by
  unfold In.c1
  rw [code1_at, m_at D b r q i hr, hK_eq D b r q i hr]
theorem In_lanes_at (a0 : BitVec 32) (g : Vec Ideal S6x256x128 .f32) (l : Fin 128) : D.lanes (ev b q) a0 g (ix3 0 i l)
    = Scalar.select (IntOp.cmpi .eq (BitVec.ofNat 32 l.val) (Scalar.addi (Scalar.muli a0 2#32) 1#32))
        (scale (live r.val (D.len (ix1 b))) (amax fun l : Fin 128 => hD D b r ⟨128 + l.val, by omega⟩))
        (Scalar.select (IntOp.cmpi .eq (BitVec.ofNat 32 l.val) (Scalar.addi (Scalar.muli a0 2#32) 0#32))
          (scale (live r.val (D.len (ix1 b))) (amax fun l : Fin 128 => hD D b r ⟨l.val, by omega⟩)) (g (ix3 b r l))) := by
  unfold In.lanes
  rw [lanes_at, m_at D b r q i hr, hK_eq D b r q i hr, part_at b r q i hr]
end block

/-- The magnitude of a half of the grid point's columns. -/
def gD (e : Fin 2) : EReal := amax fun l : Fin 128 => hD D b r ⟨128 * e.val + l.val, by omega⟩

theorem gD_zero : (amax fun l : Fin 128 => hD D b r ⟨l.val, by omega⟩) = gD D b r 0 := by
  unfold gD; congr 1; funext l; congr 1; exact Fin.ext (by show l.val = 128 * 0 + l.val; omega)
theorem gD_one : (amax fun l : Fin 128 => hD D b r ⟨128 + l.val, by omega⟩) = gD D b r 1 := by
  unfold gD; congr 1

theorem pay1_zero (i : Fin 128) (c : Fin 256) : k0_pay1 (F := Ideal) (ix3 0 i c) = 0 := by
  pointwise [k0_pay1]
  exact Ideal.ofBits_zero .fp8e4m3

/-- The blocks' codes. -/
theorem H_at (c : Fin 256) (e : Fin 2) (l : Fin 128) (hc : c.val = 128 * e.val + l.val) :
    D.H (ix3 b r c) = code (live r.val (D.len (ix1 b))) (hD D b r c) (gD D b r e) := by
  have hq : r.val = 128 * (⟨r.val / 128, by omega⟩ : Fin 2).val + (⟨r.val % 128, Nat.mod_lt _ (by decide)⟩ : Fin 128).val := by
    show r.val = 128 * (r.val / 128) + r.val % 128; omega
  have hS : D.H (ix3 b r c) = if Live (D.l (ev b ⟨r.val / 128, by omega⟩)) (128 * (r.val / 128)) then
      if h : c.val < 128 then D.c0 (ev b ⟨r.val / 128, by omega⟩) (ix3 0 ⟨r.val % 128, Nat.mod_lt _ (by decide)⟩ ⟨c.val, h⟩)
      else D.c1 (ev b ⟨r.val / 128, by omega⟩) (ix3 0 ⟨r.val % 128, Nat.mod_lt _ (by decide)⟩ ⟨c.val - 128, by omega⟩)
    else k0_pay1 (F := Ideal) (ix3 0 ⟨r.val % 128, Nat.mod_lt _ (by decide)⟩ c) := rfl
  rw [hS]
  by_cases hl : Live (D.l (ev b ⟨r.val / 128, by omega⟩)) (128 * (r.val / 128))
  · rw [if_pos hl]
    by_cases h : c.val < 128
    · have he : e = 0 := Fin.ext (by show e.val = 0; omega)
      rw [dif_pos h, c0_at D b r _ _ hq, he, gD_zero]
    · have he : e = 1 := Fin.ext (by show e.val = 1; omega)
      subst he
      rw [dif_neg h, c1_at D b r _ _ hq, gD_one]
      congr 2
      exact Fin.ext (by show 128 + (c.val - 128) = c.val; omega)
  · rw [if_neg hl, pay1_zero]
    rw [l_at] at hl
    rw [dead_of _ ⟨r.val / 128, by omega⟩ r (by show 128 * (r.val / 128) ≤ r.val; omega) hl, code_dead]

theorem lane_eq (n l : ℕ) (k : ℕ) (hn : n < 27) (hl : l < 128) (hk : k < 2) :
    IntOp.cmpi .eq (BitVec.ofNat 32 l) (Scalar.addi (Scalar.muli (BitVec.ofNat 32 n) 2#32) (BitVec.ofNat 32 k)) = if l = 2 * n + k then 1#1 else 0#1 := by
  have : Scalar.addi (Scalar.muli (BitVec.ofNat 32 n) 2#32) (BitVec.ofNat 32 k) = BitVec.ofNat 32 (n * 2 + k) := by
    show BitVec.ofNat 32 n * BitVec.ofNat 32 2 + BitVec.ofNat 32 k = _
    rw [← BitVec.ofNat_mul, ← BitVec.ofNat_add]
  rw [this]
  have h2 : (BitVec.ofNat 32 l == BitVec.ofNat 32 (n * 2 + k)) = decide (l = 2 * n + k) := by
    rw [Bool.eq_iff_iff, beq_iff_eq, decide_eq_true_iff]
    constructor
    · intro h
      have := congrArg BitVec.toNat h
      rw [BitVec.toNat_ofNat, BitVec.toNat_ofNat, Nat.mod_eq_of_lt (by omega), Nat.mod_eq_of_lt (by omega)] at this
      omega
    · intro h; congr 1; omega
  unfold IntOp.cmpi
  simp only [h2]
  split <;> rename_i h <;> simp [h]

/-- The scale lanes after a grid point, given that its two lanes held zero. -/
theorem step_at (n : ℕ) (hn : n < 27) (g : Vec Ideal S6x256x128 .f32) (l : Fin 128) (h0 : 2 * n ≤ l.val → g (ix3 b r l) = 0) :
    D.step (BitVec.ofNat 32 n) g (ix3 b r l)
      = if l.val = 2 * n + 1 then scale (live r.val (D.len (ix1 b))) (gD D b r 1)
        else if l.val = 2 * n then scale (live r.val (D.len (ix1 b))) (gD D b r 0) else g (ix3 b r l) := by
  have hq : r.val = 128 * (⟨r.val / 128, by omega⟩ : Fin 2).val + (⟨r.val % 128, Nat.mod_lt _ (by decide)⟩ : Fin 128).val := by
    show r.val = 128 * (r.val / 128) + r.val % 128; omega
  have hS : D.step (BitVec.ofNat 32 n) g (ix3 b r l) = if Live (D.l (ev b ⟨r.val / 128, by omega⟩)) (128 * (r.val / 128)) then
      D.lanes (ev b ⟨r.val / 128, by omega⟩) (BitVec.ofNat 32 n) g (ix3 0 ⟨r.val % 128, Nat.mod_lt _ (by decide)⟩ l)
    else g (ix3 b r l) := rfl
  rw [hS]
  by_cases hl : Live (D.l (ev b ⟨r.val / 128, by omega⟩)) (128 * (r.val / 128))
  · rw [if_pos hl, In_lanes_at D b r _ _ hq, gD_zero, gD_one, lane_eq n l.val 1 hn l.isLt (by decide), lane_eq n l.val 0 hn l.isLt (by decide)]
    unfold Scalar.select
    by_cases e1 : l.val = 2 * n + 1
    · simp [e1]
    · by_cases e0 : l.val = 2 * n
      · simp [e0]
      · simp [e1, e0]
  · rw [if_neg hl]
    rw [l_at] at hl
    rw [dead_of _ ⟨r.val / 128, by omega⟩ r (by show 128 * (r.val / 128) ≤ r.val; omega) hl, scale_dead, scale_dead]
    by_cases e1 : l.val = 2 * n + 1
    · rw [if_pos e1, h0 (by omega)]
    · rw [if_neg e1]
      by_cases e0 : l.val = 2 * n
      · rw [if_pos e0, h0 (by omega)]
      · rw [if_neg e0]

end Cert.Spec

end
-- ==== Proof.KerOut.lean ====
module

public import proofs.«01_k».proof.Proof.RunMain
public import Idealize.ShloMosaic.Lib.Pipeline.ValueKit
public import Idealize.ShloMosaic.Lib.Pointwise
public import Idealize.ShloMosaic.Lib.Claim

/-! # The kernel's blocks as places of the arguments, and its output arrays -/

@[expose] public section

set_option maxRecDepth 16384
set_option maxHeartbeats 400000

noncomputable section

namespace Cert.KernelIdeal.Blk

open Idealize.ShloMosaic Idealize.ShloMosaic.TcCoe Idealize.SL.Sem
open Cert.KernelIdeal.Gen
open Idealize.ShloMosaic.Pipeline (Dat)

variable {F : FTy → Type} [FloatOps F]
variable (m : (ℓ : Loc nD τ sig) → Buf (Elt F) ℓ) (c : Dev nD)

theorem ix2_0 : ∀ t : Fin cfg0.N, win0_2.index t 0 = 0 := fun _ => rfl
theorem ix2_1 : ∀ t : Fin cfg0.N, win0_2.index t 1 = t.val := (by decide +kernel : ∀ t : Fin grid0.N, win0_2.index t 1 = t.val)
theorem ix3_0 : ∀ t : Fin cfg0.N, win0_3.index t 0 = 0 := fun _ => rfl
theorem ix3_1 : ∀ t : Fin cfg0.N, win0_3.index t 1 = t.val + 27 := (by decide +kernel : ∀ t : Fin grid0.N, win0_3.index t 1 = t.val + 27)
theorem ix4_0 : ∀ t : Fin cfg0.N, win0_4.index t 0 = 0 := fun _ => rfl
theorem ix4_1 : ∀ t : Fin cfg0.N, win0_4.index t 1 = t.val := (by decide +kernel : ∀ t : Fin grid0.N, win0_4.index t 1 = t.val)
theorem ix5_0 : ∀ t : Fin cfg0.N, win0_5.index t 0 = 0 := fun _ => rfl
theorem ix5_1 : ∀ t : Fin cfg0.N, win0_5.index t 1 = t.val + 27 := (by decide +kernel : ∀ t : Fin grid0.N, win0_5.index t 1 = t.val + 27)
theorem ix6_0 : ∀ t : Fin cfg0.N, win0_6.index t 0 = 0 := fun _ => rfl
theorem ix6_1 : ∀ t : Fin cfg0.N, win0_6.index t 1 = 0 := fun _ => rfl
theorem ix6_2 : ∀ t : Fin cfg0.N, win0_6.index t 2 = t.val := (by decide +kernel : ∀ t : Fin grid0.N, win0_6.index t 2 = t.val)

theorem blk0 (t : Fin cfg0.N) : iblk m c 0 t = m ((c.tc : Thread nD τ).loc main_arg3) := by
  funext y
  have e : ∀ (t : Fin cfg0.N) a, win0_0.index t a = 0 := fun _ a => match a with | 0 => rfl
  blk_ext! [iblk, e]
theorem blk1 (t : Fin cfg0.N) : iblk m c 1 t = m ((c.tc : Thread nD τ).loc main_arg0) := by
  funext y
  have e : ∀ (t : Fin cfg0.N) a, win0_1.index t a = 0 := fun _ a => match a with | 0 => rfl | 1 => rfl | 2 => rfl
  blk_ext! [iblk, e]
/-- The two halves' weight blocks are columns of the weights. -/
theorem blk2 (t : Fin cfg0.N) (k : Fin 1152) (q : Fin 256) (p : Fin 13824) (hp : p.val = t.val * 256 + q.val) :
    iblk m c 2 t (ix2 k q) = m ((c.tc : Thread nD τ).loc main_arg1) (ix2 k p) := by
  blk_ext! [iblk, ix2_0, ix2_1]
theorem blk3 (t : Fin cfg0.N) (k : Fin 1152) (q : Fin 256) (p : Fin 13824) (hp : p.val = (t.val + 27) * 256 + q.val) :
    iblk m c 3 t (ix2 k q) = m ((c.tc : Thread nD τ).loc main_arg1) (ix2 k p) := by
  blk_ext! [iblk, ix3_0, ix3_1]
/-- The column scales as the region finds them. -/
theorem V_v0 : V m c main_v0 = shapeCast S1x13824 (m ((c.tc : Thread nD τ).loc main_arg2)) shapeCasts_S13824_S1x13824 := by
  show StableHlo.after hostOps0 (fun b => m (c, b)) (Proc.devRef .tc main_v0) = _
  rfl
theorem row_at {α : Type} (x : S13824.Idx → α) (p : Fin 13824) : shapeCast S1x13824 x shapeCasts_S13824_S1x13824 (ix2 0 p) = x (ix1 p) := by
  refine shapeCast_apply _ _ _ _ ?_
  rw [Shape.rowMajor_val_one, Shape.rowMajor_val_two]
  show p.val = 0 * 13824 + p.val
  omega
theorem V_v0_at (p : Fin 13824) : V m c main_v0 (ix2 0 p) = m ((c.tc : Thread nD τ).loc main_arg2) (ix1 p) := by
  rw [V_v0]
  exact row_at _ p
/-- The two halves' column scales are places of the scales. -/
theorem blk4 (t : Fin cfg0.N) (q : Fin 256) (p : Fin 13824) (hp : p.val = t.val * 256 + q.val) :
    iblk m c 4 t (ix2 0 q) = m ((c.tc : Thread nD τ).loc main_arg2) (ix1 p) := by
  refine Eq.trans ?_ (V_v0_at m c p)
  blk_simp [iblk]
  blk_ext [ix4_0, ix4_1]
theorem blk5 (t : Fin cfg0.N) (q : Fin 256) (p : Fin 13824) (hp : p.val = (t.val + 27) * 256 + q.val) :
    iblk m c 5 t (ix2 0 q) = m ((c.tc : Thread nD τ).loc main_arg2) (ix1 p) := by
  refine Eq.trans ?_ (V_v0_at m c p)
  blk_simp [iblk]
  blk_ext [ix5_0, ix5_1]

/-- The first output: any array whose blocks the points leave. -/
theorem arr6 (G : Vec F S6x256x6912 .fp8e4m3)
    (hG : ∀ (t : Fin cfg0.N) (b : Fin 6) (r q : Fin 256) (p : Fin 6912), p.val = t.val * 256 + q.val → (inAt m c t).H (ix3 b r q) = G (ix3 b r p)) :
    (dats m 0 c).arrAt 6 cfg0.N = G := by
  refine (dats m 0 c).arrAt_eq_of_covers 6 _ (by decide +kernel) fun t hf y => ?_
  blk_simp
  have ha : (dats m 0 c).after 6 t = (inAt m c t).H := by dsimp only [dats]
  rw [ha, eq_ix3 y]
  have ht := val_lt t
  have hq : (y 2).val < 256 := (y 2).isLt
  refine (hG t (y 0) (y 1) (y 2) ⟨t.val * 256 + (y 2).val, by omega⟩ rfl).trans ?_
  refine congrArg G ?_
  blk_ext [ix6_0, ix6_1, ix6_2]
/-- The outputs that the last point alone writes back. -/
theorem arr7 : (dats m 0 c).arrAt 7 cfg0.N = T8 (HS m c 27) := by
  refine (dats m 0 c).arrAt_eq_of_covers 7 _ (by decide +kernel) fun t hf y => ?_
  have e : ∀ (t : Fin cfg0.N) a, win0_7.index t a = 0 := fun _ a => match a with | 0 => rfl | 1 => rfl | 2 => rfl
  blk_simp
  rw [after0_7]
  refine congrArg _ ?_
  blk_ext [e]
theorem arr8 : (dats m 0 c).arrAt 8 cfg0.N = XC (L0 m c) (X0 m c) := by
  refine (dats m 0 c).arrAt_eq_of_covers 8 _ (by decide +kernel) fun t hf y => ?_
  have e : ∀ (t : Fin cfg0.N) a, win0_8.index t a = 0 := fun _ a => match a with | 0 => rfl | 1 => rfl | 2 => rfl
  blk_simp
  have ha : (dats m 0 c).after 8 t = XC (L0 m c) (X0 m c) := by dsimp only [dats]
  rw [ha]
  refine congrArg _ ?_
  blk_ext [e]
theorem arr9 : (dats m 0 c).arrAt 9 cfg0.N = T10 (XS (L0 m c) (X0 m c)) := by
  refine (dats m 0 c).arrAt_eq_of_covers 9 _ (by decide +kernel) fun t hf y => ?_
  have e : ∀ (t : Fin cfg0.N) a, win0_9.index t a = 0 := fun _ a => match a with | 0 => rfl | 1 => rfl | 2 => rfl
  blk_simp
  rw [after0_9]
  refine congrArg _ ?_
  blk_ext [e]

/-- The second result: the second output, transposed. -/
theorem W_v2 : Pipeline.afterTail₀ cfgs (dats m) 0 (V0 m) [hostOps1] c main_v2
    = transpose S6x256x54 [0, 2, 1] ((dats m 0 c).arrAt 7 cfg0.N) transposes_S6x54x256_S6x256x54_0_2_1 := by
  unfold Pipeline.afterTail₀
  have h := (dats m 0 c).withArrays_arrAt sharedIn0 (V0 m c) (fun w => A_eq m c w) 7
  refine Eq.trans ?_ (congrArg (fun X => transpose S6x256x54 [0, 2, 1] X transposes_S6x54x256_S6x256x54_0_2_1) h)
  rfl
/-- The fourth result: the fourth output, transposed. -/
theorem W_v3 : Pipeline.afterTail₀ cfgs (dats m) 0 (V0 m) [hostOps1] c main_v3
    = transpose S6x256x1 [0, 2, 1] ((dats m 0 c).arrAt 9 cfg0.N) transposes_S6x1x256_S6x256x1_0_2_1 := by
  unfold Pipeline.afterTail₀
  have h := (dats m 0 c).withArrays_arrAt sharedIn0 (V0 m c) (fun w => A_eq m c w) 9
  refine Eq.trans ?_ (congrArg (fun X => transpose S6x256x1 [0, 2, 1] X transposes_S6x1x256_S6x256x1_0_2_1) h)
  rfl

variable (ρ : Dev nD → PrngReg)
/-- The run, with each result named and the arguments kept. -/
theorem run_named : θ_run defs (onTc (τ := τ) (main (F := F))) ⟨m, fun _ => 0, ρ⟩ (fun r => ∀ c : Dev nD,
      (r.2.mem ((c.tc : Thread nD τ).loc main_v1_0) = (dats m 0 c).arrAt 6 cfg0.N
      ∧ r.2.mem ((c.tc : Thread nD τ).loc main_v2) = transpose S6x256x54 [0, 2, 1] ((dats m 0 c).arrAt 7 cfg0.N) transposes_S6x54x256_S6x256x54_0_2_1
      ∧ r.2.mem ((c.tc : Thread nD τ).loc main_v1_2) = (dats m 0 c).arrAt 8 cfg0.N
      ∧ r.2.mem ((c.tc : Thread nD τ).loc main_v3) = transpose S6x256x1 [0, 2, 1] ((dats m 0 c).arrAt 9 cfg0.N) transposes_S6x1x256_S6x256x1_0_2_1)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ hh c => have h := hh.1
    ⟨⟨(h c).1 6,
      ((h c).2 main_v2 (Pipeline.mem_restRefs_of main_v2 (by decide) (by decide))).trans (W_v2 m c),
      (h c).1 8,
      ((h c).2 main_v3 (Pipeline.mem_restRefs_of main_v3 (by decide) (by decide))).trans (W_v3 m c)⟩,
      ((h c).1 1).trans (((dats m 0 c).arrAt_in 1 rfl _).trans ((A_eq m c 1).trans (V_main_arg0 m c))),
      ((h c).1 3).trans (((dats m 0 c).arrAt_in 3 rfl _).trans ((A_eq m c 3).trans (V_main_arg1 m c))),
      (((h c).2 main_arg2 (Pipeline.mem_restRefs_of main_arg2 (by decide) (by decide))).trans (W_main_arg2 m (dats m) c)),
      ((h c).1 0).trans (((dats m 0 c).arrAt_in 0 rfl _).trans ((A_eq m c 0).trans (V_main_arg3 m c)))⟩) (run_main m ρ)
end Cert.KernelIdeal.Blk
-- ==== Proof.SpecOut.lean ====
module

public import proofs.«01_k».proof.Proof.RefVals

/-! # The four results, as plain functions of the four arguments -/

@[expose] public section

set_option maxHeartbeats 400000

noncomputable section

namespace Cert.Spec

open Idealize.ShloMosaic Idealize.ShloMosaic.TcCoe
open Cert.ReferenceIdeal

variable (X : Vec Ideal S6x256x1152 .bf16) (W : Vec Ideal S1152x13824 .fp8e4m3) (w : Vec Ideal S13824 .f32) (len : Vec Ideal S6 .i32)
/-- Whether a row is below its batch's length. -/
def sL (b : Fin 6) (r : Fin 256) : BitVec 1 := live r.val (len (ix1 b))
/-- A row's codes. -/
def sC (b : Fin 6) (r : Fin 256) (k : Fin 1152) : EReal := code (sL len b r) (X (ix3 b r k)) (amax fun k : Fin 1152 => X (ix3 b r k))
/-- A row's scale. -/
def sS (b : Fin 6) (r : Fin 256) : EReal := scale (sL len b r) (amax fun k : Fin 1152 => X (ix3 b r k))
/-- The gated product of a row. -/
def sH (b : Fin 6) (r : Fin 256) : Fin 6912 → EReal := hAt (fun k => sC X len b r k) (sS X len b r) (fun k c => W (ix2 k c)) (fun c => w (ix1 c))
/-- The first result: the product's codes, of column `c` in group `g`. -/
def sHC (b : Fin 6) (r : Fin 256) (c : Fin 6912) (g : Fin 54) : EReal := code (sL len b r) (sH X W w len b r c) (grpMax (sH X W w len b r) g)
/-- The second result: the scale of group `g`. -/
def sHS (b : Fin 6) (r : Fin 256) (g : Fin 54) : EReal := scale (sL len b r) (grpMax (sH X W w len b r) g)

/-- A column's group. -/
def grp (c : Fin 6912) : Fin 54 := ⟨c.val / 128, by omega⟩
def V0 : Vec Ideal S6x256x6912 .fp8e4m3 := fun j => sHC X W w len (j 0) (j 1) (j 2) (grp (j 2))
def V1 : Vec Ideal S6x256x54 .f32 := fun j => sHS X W w len (j 0) (j 1) (j 2)
def V2 : Vec Ideal S6x256x1152 .fp8e4m3 := fun j => sC X len (j 0) (j 1) (j 2)
def V3 : Vec Ideal S6x256x1 .f32 := fun j => sS X len (j 0) (j 1)

end Cert.Spec
-- ==== Proof.KerSpec.lean ====
module

public import proofs.«01_k».proof.Proof.KerBlocks
public import proofs.«01_k».proof.Proof.KerOut
public import proofs.«01_k».proof.Proof.SpecOut

/-! # The kernel computes the four results -/

@[expose] public section

set_option maxRecDepth 16384
set_option maxHeartbeats 400000

noncomputable section

namespace Cert.Spec

open Idealize.ShloMosaic Idealize.ShloMosaic.TcCoe Idealize.ShloMosaic.Pointwise
open Cert.KernelIdeal Cert.KernelIdeal.Gen Cert.KernelIdeal.Blk

/-- What a grid point's blocks are, of the arguments. -/
structure Of (D : In Ideal) (t : ℕ) (X : Vec Ideal S6x256x1152 .bf16) (W : Vec Ideal S1152x13824 .fp8e4m3) (w : Vec Ideal S13824 .f32) (len : Vec Ideal S6 .i32) : Prop where
  hlen : D.len = len
  xc : D.xc = XC (F := Ideal) len X
  xs : D.xs = XS (F := Ideal) len X
  w1 : ∀ k (q : Fin 256) (p : Fin 13824), p.val = t * 256 + q.val → D.w1 (ix2 k q) = W (ix2 k p)
  w2 : ∀ k (q : Fin 256) (p : Fin 13824), p.val = (t + 27) * 256 + q.val → D.w2 (ix2 k q) = W (ix2 k p)
  s1 : ∀ (q : Fin 256) (p : Fin 13824), p.val = t * 256 + q.val → D.s1 (ix2 0 q) = w (ix1 p)
  s2 : ∀ (q : Fin 256) (p : Fin 13824), p.val = (t + 27) * 256 + q.val → D.s2 (ix2 0 q) = w (ix1 p)

section of
variable (X : Vec Ideal S6x256x1152 .bf16) (W : Vec Ideal S1152x13824 .fp8e4m3) (w : Vec Ideal S13824 .f32) (len : Vec Ideal S6 .i32)
variable (D : In Ideal) (t : ℕ) (h : Of D t X W w len) (b : Fin 6) (r : Fin 256)
include h

/-- Column `q` of the block's gated product is column `256 t + q` of the row's. -/
theorem hD_of (q : Fin 256) (p : Fin 6912) (hp : p.val = t * 256 + q.val) : hD D b r q = sH X W w len b r p := by
  have hC : (fun k : Fin 1152 => D.xc (ix3 b r k)) = fun k => sC X len b r k := funext fun k => by
    rw [h.xc, XC_at]; rfl
  have hS : D.xs (ix3 b r 0) = sS X len b r := by rw [h.xs, XS_at]; rfl
  have h1 : (fun k : Fin 1152 => D.w1 (ix2 k q)) = fun k => W (ix2 k ⟨p.val, by omega⟩) := funext fun k => h.w1 k q _ hp
  have h2 : (fun k : Fin 1152 => D.w2 (ix2 k q)) = fun k => W (ix2 k ⟨6912 + p.val, by omega⟩) := funext fun k => h.w2 k q _ (by show 6912 + p.val = _; omega)
  have h3 : D.s1 (ix2 0 q) = w (ix1 ⟨p.val, by omega⟩) := h.s1 q _ hp
  have h4 : D.s2 (ix2 0 q) = w (ix1 ⟨6912 + p.val, by omega⟩) := h.s2 q _ (by show 6912 + p.val = _; omega)
  unfold hD hBlk sH hAt
  beta_reduce
  rw [hC, hS, h1, h2, h3, h4]

/-- The largest magnitude of the block's half `e` is that of group `2 t + e`. -/
theorem gD_of (e : Fin 2) (g : Fin 54) (hg : g.val = 2 * t + e.val) : gD D b r e = grpMax (sH X W w len b r) g := by
  unfold gD grpMax
  congr 1
  funext l
  exact hD_of X W w len D t h b r _ _ (by show 128 * g.val + l.val = t * 256 + (128 * e.val + l.val); omega)

theorem live_of : live r.val (D.len (ix1 b)) = sL len b r := by
  rw [h.hlen]; rfl

/-- The block's codes are the first result's. -/
theorem H_of (q : Fin 256) (p : Fin 6912) (hp : p.val = t * 256 + q.val) : D.H (ix3 b r q) = sHC X W w len b r p (grp p) := by
  have hq := q.isLt
  rw [H_at D b r q ⟨q.val / 128, by omega⟩ ⟨q.val % 128, by omega⟩ (by show q.val = 128 * (q.val / 128) + q.val % 128; omega),
    live_of X W w len D t h, hD_of X W w len D t h b r q p hp,
    gD_of X W w len D t h b r ⟨q.val / 128, by omega⟩ (grp p) (by show p.val / 128 = 2 * t + q.val / 128; omega)]
  rfl

/-- The lane scales before point `n`, in closed form. -/
def lanesAt (n : ℕ) (l : Fin 128) : EReal := if h : l.val < 54 then (if l.val < 2 * n then sHS X W w len b r ⟨l.val, h⟩ else 0) else 0

/-- One grid point adds its two groups' scales to the lanes. -/
theorem step_of (ht : t < 27) (g : Vec Ideal S6x256x128 .f32) (hg : ∀ l, g (ix3 b r l) = lanesAt X W w len b r t l) (l : Fin 128) :
    D.step (BitVec.ofNat 32 t) g (ix3 b r l) = lanesAt X W w len b r (t + 1) l := by
  have h0 : 2 * t ≤ l.val → g (ix3 b r l) = 0 := fun hl => by
    rw [hg]; unfold lanesAt
    split
    · rw [if_neg (by omega)]
    · rfl
  rw [step_at D b r t ht g l h0, live_of X W w len D t h]
  unfold lanesAt
  by_cases h1 : l.val = 2 * t + 1
  · rw [if_pos h1, dif_pos (by omega), if_pos (by omega), gD_of X W w len D t h b r 1 ⟨l.val, by omega⟩ h1]
    rfl
  · rw [if_neg h1]
    by_cases h2 : l.val = 2 * t
    · rw [if_pos h2, dif_pos (by omega), if_pos (by omega), gD_of X W w len D t h b r 0 ⟨l.val, by omega⟩ h2]
      rfl
    · rw [if_neg h2, hg]
      unfold lanesAt
      by_cases h3 : l.val < 54
      · rw [dif_pos h3, dif_pos h3]
        by_cases h4 : l.val < 2 * t
        · rw [if_pos h4, if_pos (by omega)]
        · rw [if_neg h4, if_neg (by omega)]
      · rw [dif_neg h3, dif_neg h3]
end of

variable (m : (ℓ : Loc nD τ sig) → Buf (Elt Ideal) ℓ) (c : Dev nD)
abbrev aX : Vec Ideal S6x256x1152 .bf16 := m ((c.tc : Thread nD τ).loc main_arg0)
abbrev aW : Vec Ideal S1152x13824 .fp8e4m3 := m ((c.tc : Thread nD τ).loc main_arg1)
abbrev aw : Vec Ideal S13824 .f32 := m ((c.tc : Thread nD τ).loc main_arg2)
abbrev aL : Vec Ideal S6 .i32 := m ((c.tc : Thread nD τ).loc main_arg3)

/-- What grid point `t` reads, of the arguments. -/
theorem inAt_of (t : Fin cfg0.N) : Of (inAt m c t) t.val (aX m c) (aW m c) (aw m c) (aL m c) where
  hlen := blk0 m c t0
  xc := by show XC (F := Ideal) (iblk m c 0 t0) (iblk m c 1 t0) = _; rw [blk0, blk1]
  xs := by show XS (F := Ideal) (iblk m c 0 t0) (iblk m c 1 t0) = _; rw [blk0, blk1]
  w1 := fun k q p hp => blk2 m c t k q p hp
  w2 := fun k q p hp => blk3 m c t k q p hp
  s1 := fun q p hp => blk4 m c t q p hp
  s2 := fun q p hp => blk5 m c t q p hp

theorem zero_lanes (b : Fin 6) (r : Fin 256) (l : Fin 128) : k0_pay12 (F := Ideal) (ix3 b r l) = 0 := by
  pointwise [k0_pay12]

/-- The lanes hold, before point `n`, the scales of the first `2 n` groups. -/
theorem HS_at (b : Fin 6) (r : Fin 256) : ∀ n : ℕ, n ≤ 27 → ∀ l, HS m c n (ix3 b r l) = lanesAt (aX m c) (aW m c) (aw m c) (aL m c) b r n l := by
  intro n
  induction n with
  | zero =>
    intro _ l
    have h1 : HS m c 0 = k0_pay12 (F := Ideal) := rfl
    rw [h1, zero_lanes]
    unfold lanesAt
    split
    · rw [if_neg (by omega)]
    · rfl
  | succ n ih =>
    intro hn l
    have hN : n < cfg0.N := by have e : cfg0.N = 27 := N_0; omega
    rw [HS_succ m c ⟨n, hN⟩]
    exact step_of _ _ _ _ _ n (inAt_of m c ⟨n, hN⟩) b r (by omega) _ (ih (by omega)) l

/-- The kernel's first result. -/
theorem ker_arr6 : (dats m 0 c).arrAt 6 cfg0.N = V0 (aX m c) (aW m c) (aw m c) (aL m c) :=
  arr6 m c _ fun t b r q p hp => H_of _ _ _ _ _ t.val (inAt_of m c t) b r q p hp
/-- The kernel's third result. -/
theorem ker_arr8 : (dats m 0 c).arrAt 8 cfg0.N = V2 (aX m c) (aL m c) := by
  rw [arr8]
  show XC (F := Ideal) (iblk m c 0 t0) (iblk m c 1 t0) = _
  rw [blk0, blk1]
  funext j
  rw [eq_ix3 j]
  exact XC_at _ _ (j 0) (j 1) (j 2)
theorem tr7_at (y : Vec Ideal S6x54x256 .f32) (b : Fin 6) (r : Fin 256) (g : Fin 54) :
    transpose S6x256x54 [0, 2, 1] y transposes_S6x54x256_S6x256x54_0_2_1 (ix3 b r g) = y (ix3 b g r) := by
  pointwise
theorem tr9_at (y : Vec Ideal S6x1x256 .f32) (b : Fin 6) (r : Fin 256) (g : Fin 1) :
    transpose S6x256x1 [0, 2, 1] y transposes_S6x1x256_S6x256x1_0_2_1 (ix3 b r g) = y (ix3 b g r) := by
  rw [Subsingleton.elim g 0]
  pointwise
theorem ker_v2_at (b : Fin 6) (r : Fin 256) (g : Fin 54) :
    transpose S6x256x54 [0, 2, 1] ((dats m 0 c).arrAt 7 cfg0.N) transposes_S6x54x256_S6x256x54_0_2_1 (ix3 b r g)
      = sHS (aX m c) (aW m c) (aw m c) (aL m c) b r g := by
  rw [arr7, tr7_at]
  have hg := g.isLt
  refine (HS_at m c b r 27 (le_refl _) ⟨g.val, by omega⟩).trans ?_
  unfold lanesAt
  rw [dif_pos hg, if_pos (show g.val < 2 * 27 by omega)]
/-- The kernel's second result. -/
theorem ker_v2 : transpose S6x256x54 [0, 2, 1] ((dats m 0 c).arrAt 7 cfg0.N) transposes_S6x54x256_S6x256x54_0_2_1
      = V1 (aX m c) (aW m c) (aw m c) (aL m c) := by
  funext j
  rw [eq_ix3 j]
  exact ker_v2_at m c (j 0) (j 1) (j 2)
theorem ker_v3_at (b : Fin 6) (r : Fin 256) (u : Fin 1) :
    transpose S6x256x1 [0, 2, 1] ((dats m 0 c).arrAt 9 cfg0.N) transposes_S6x1x256_S6x256x1_0_2_1 (ix3 b r u)
      = sS (aX m c) (aL m c) b r := by
  rw [arr9, tr9_at]
  show XS (F := Ideal) (iblk m c 0 t0) (iblk m c 1 t0) (ix3 b r 0) = _
  rw [blk0, blk1]
  exact XS_at (aL m c) (aX m c) b r 0
/-- The kernel's fourth result. -/
theorem ker_v3 : transpose S6x256x1 [0, 2, 1] ((dats m 0 c).arrAt 9 cfg0.N) transposes_S6x1x256_S6x256x1_0_2_1
      = V3 (aX m c) (aL m c) := by
  funext j
  rw [eq_ix3 j]
  exact ker_v3_at m c (j 0) (j 1) (j 2)
end Cert.Spec
-- ==== Proof.RefRun.lean ====
module

public import proofs.«01_k».proof.Proof.Gen.ReferenceIdeal.Frame
public import Idealize.ShloMosaic.Lib.Pipeline.Value

/-! # The reference's run with each output array named -/

@[expose] public section

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]
variable (m : (ℓ : Loc nD τ sig) → Buf (Elt F) ℓ) (ρ : Dev nD → PrngReg)

/-! ## Blockwise: what each point writes back, and the final array block by block -/

/-- WHAT POINT `t` WRITES BACK to output window 4's array: the body's result for that window (`Gen.out0_4`: its stores
    as pieces over the input windows' blocks), read through the window's block. -/
theorem flushed4 (c : Dev nD) (t : Fin cfg0.N) :
    (dats m 0 c).flushed 4 t = (cfg0.win 4).cut (grid0.coords t) (out0_4 (iblk m c 0 t) (iblk m c 1 t) (iblk m c 2 t) (iblk m c 3 t)) := by
  show (cfg0.win 4).cut (grid0.coords t) ((dats m 0 c).after 4 t) = _
  rw [after0_4]

/-- The index map sends distinct grid points to distinct block indices (decided over the 1 point). -/
theorem idx_inj4 : ∀ t t' : Fin cfg0.N, win0_4.index t = win0_4.index t' → t = t' :=
  (by decide +kernel : ∀ t t' : Fin grid0.N, win0_4.index t = win0_4.index t' → t = t')

/-- So two flushing points' blocks share no array index (Lib/Pipeline/Cells.lean `Window.disjoint_blk`). -/
theorem disjoint4 : ∀ t t' : Fin cfg0.N, (cfg0.win 4).flush t = true → (cfg0.win 4).flush t' = true → t ≠ t' →
    Disjoint ((cfg0.win 4).blk t).view.set ((cfg0.win 4).blk t').view.set :=
  fun t t' _ _ hne => (cfg0.win 4).disjoint_blk fun h => hne (idx_inj4 t t' h)

/-- BLOCK `t` OF THE FINAL ARRAY, read back through the window, is what point `t` wrote back (`flushed4`), for every
    point that writes back: no other point's block meets it. -/
theorem blocks4 (c : Dev nD) (t : Fin cfg0.N) (hf : (cfg0.win 4).flush t = true) :
    ((cfg0.win 4).blk t).view.read (Elt F) ((dats m 0 c).arrAt 4 cfg0.N) = (dats m 0 c).flushed 4 t :=
  (dats m 0 c).read_blk_arrAt_eq_flushed 4 disjoint4 cfg0.N t t.isLt hf

/-- WHAT POINT `t` WRITES BACK to output window 5's array: the body's result for that window (`Gen.out0_5`: its stores
    as pieces over the input windows' blocks), read through the window's block. -/
theorem flushed5 (c : Dev nD) (t : Fin cfg0.N) :
    (dats m 0 c).flushed 5 t = (cfg0.win 5).cut (grid0.coords t) (out0_5 (iblk m c 0 t) (iblk m c 1 t) (iblk m c 2 t) (iblk m c 3 t)) := by
  show (cfg0.win 5).cut (grid0.coords t) ((dats m 0 c).after 5 t) = _
  rw [after0_5]

/-- The index map sends distinct grid points to distinct block indices (decided over the 1 point). -/
theorem idx_inj5 : ∀ t t' : Fin cfg0.N, win0_5.index t = win0_5.index t' → t = t' :=
  (by decide +kernel : ∀ t t' : Fin grid0.N, win0_5.index t = win0_5.index t' → t = t')

/-- So two flushing points' blocks share no array index (Lib/Pipeline/Cells.lean `Window.disjoint_blk`). -/
theorem disjoint5 : ∀ t t' : Fin cfg0.N, (cfg0.win 5).flush t = true → (cfg0.win 5).flush t' = true → t ≠ t' →
    Disjoint ((cfg0.win 5).blk t).view.set ((cfg0.win 5).blk t').view.set :=
  fun t t' _ _ hne => (cfg0.win 5).disjoint_blk fun h => hne (idx_inj5 t t' h)

/-- BLOCK `t` OF THE FINAL ARRAY, read back through the window, is what point `t` wrote back (`flushed5`), for every
    point that writes back: no other point's block meets it. -/
theorem blocks5 (c : Dev nD) (t : Fin cfg0.N) (hf : (cfg0.win 5).flush t = true) :
    ((cfg0.win 5).blk t).view.read (Elt F) ((dats m 0 c).arrAt 5 cfg0.N) = (dats m 0 c).flushed 5 t :=
  (dats m 0 c).read_blk_arrAt_eq_flushed 5 disjoint5 cfg0.N t t.isLt hf

/-- WHAT POINT `t` WRITES BACK to output window 6's array: the body's result for that window (`Gen.out0_6`: its stores
    as pieces over the input windows' blocks), read through the window's block. -/
theorem flushed6 (c : Dev nD) (t : Fin cfg0.N) :
    (dats m 0 c).flushed 6 t = (cfg0.win 6).cut (grid0.coords t) (out0_6 (iblk m c 0 t) (iblk m c 1 t) (iblk m c 2 t) (iblk m c 3 t)) := by
  show (cfg0.win 6).cut (grid0.coords t) ((dats m 0 c).after 6 t) = _
  rw [after0_6]

/-- The index map sends distinct grid points to distinct block indices (decided over the 1 point). -/
theorem idx_inj6 : ∀ t t' : Fin cfg0.N, win0_6.index t = win0_6.index t' → t = t' :=
  (by decide +kernel : ∀ t t' : Fin grid0.N, win0_6.index t = win0_6.index t' → t = t')

/-- So two flushing points' blocks share no array index (Lib/Pipeline/Cells.lean `Window.disjoint_blk`). -/
theorem disjoint6 : ∀ t t' : Fin cfg0.N, (cfg0.win 6).flush t = true → (cfg0.win 6).flush t' = true → t ≠ t' →
    Disjoint ((cfg0.win 6).blk t).view.set ((cfg0.win 6).blk t').view.set :=
  fun t t' _ _ hne => (cfg0.win 6).disjoint_blk fun h => hne (idx_inj6 t t' h)

/-- BLOCK `t` OF THE FINAL ARRAY, read back through the window, is what point `t` wrote back (`flushed6`), for every
    point that writes back: no other point's block meets it. -/
theorem blocks6 (c : Dev nD) (t : Fin cfg0.N) (hf : (cfg0.win 6).flush t = true) :
    ((cfg0.win 6).blk t).view.read (Elt F) ((dats m 0 c).arrAt 6 cfg0.N) = (dats m 0 c).flushed 6 t :=
  (dats m 0 c).read_blk_arrAt_eq_flushed 6 disjoint6 cfg0.N t t.isLt hf

/-- WHAT POINT `t` WRITES BACK to output window 7's array: the body's result for that window (`Gen.out0_7`: its stores
    as pieces over the input windows' blocks), read through the window's block. -/
theorem flushed7 (c : Dev nD) (t : Fin cfg0.N) :
    (dats m 0 c).flushed 7 t = (cfg0.win 7).cut (grid0.coords t) (out0_7 (iblk m c 0 t) (iblk m c 1 t) (iblk m c 2 t) (iblk m c 3 t)) := by
  show (cfg0.win 7).cut (grid0.coords t) ((dats m 0 c).after 7 t) = _
  rw [after0_7]

/-- The index map sends distinct grid points to distinct block indices (decided over the 1 point). -/
theorem idx_inj7 : ∀ t t' : Fin cfg0.N, win0_7.index t = win0_7.index t' → t = t' :=
  (by decide +kernel : ∀ t t' : Fin grid0.N, win0_7.index t = win0_7.index t' → t = t')

/-- So two flushing points' blocks share no array index (Lib/Pipeline/Cells.lean `Window.disjoint_blk`). -/
theorem disjoint7 : ∀ t t' : Fin cfg0.N, (cfg0.win 7).flush t = true → (cfg0.win 7).flush t' = true → t ≠ t' →
    Disjoint ((cfg0.win 7).blk t).view.set ((cfg0.win 7).blk t').view.set :=
  fun t t' _ _ hne => (cfg0.win 7).disjoint_blk fun h => hne (idx_inj7 t t' h)

/-- BLOCK `t` OF THE FINAL ARRAY, read back through the window, is what point `t` wrote back (`flushed7`), for every
    point that writes back: no other point's block meets it. -/
theorem blocks7 (c : Dev nD) (t : Fin cfg0.N) (hf : (cfg0.win 7).flush t = true) :
    ((cfg0.win 7).blk t).view.read (Elt F) ((dats m 0 c).arrAt 7 cfg0.N) = (dats m 0 c).flushed 7 t :=
  (dats m 0 c).read_blk_arrAt_eq_flushed 7 disjoint7 cfg0.N t t.isLt hf

/-- After the frame run, output window 4's array is `(dats m 0 c).arrAt 4 N`. -/
theorem post4 (r : PUnit × MemSt nD τ sig (Elt F)) (h : Pipeline.FramePost cfgs (dats m) 0 (V m) r) (c : Dev nD) :
    r.2.mem ((c : Thread nD τ).loc main_v3_0) = (dats m 0 c).arrAt 4 cfg0.N :=
  (h c).1 4

/-- After the frame run, output window 5's array is `(dats m 0 c).arrAt 5 N`. -/
theorem post5 (r : PUnit × MemSt nD τ sig (Elt F)) (h : Pipeline.FramePost cfgs (dats m) 0 (V m) r) (c : Dev nD) :
    r.2.mem ((c : Thread nD τ).loc main_v3_1) = (dats m 0 c).arrAt 5 cfg0.N :=
  (h c).1 5

/-- After the frame run, output window 6's array is `(dats m 0 c).arrAt 6 N`. -/
theorem post6 (r : PUnit × MemSt nD τ sig (Elt F)) (h : Pipeline.FramePost cfgs (dats m) 0 (V m) r) (c : Dev nD) :
    r.2.mem ((c : Thread nD τ).loc main_v3_2) = (dats m 0 c).arrAt 6 cfg0.N :=
  (h c).1 6

/-- After the frame run, output window 7's array is `(dats m 0 c).arrAt 7 N`. -/
theorem post7 (r : PUnit × MemSt nD τ sig (Elt F)) (h : Pipeline.FramePost cfgs (dats m) 0 (V m) r) (c : Dev nD) :
    r.2.mem ((c : Thread nD τ).loc main_v3_3) = (dats m 0 c).arrAt 7 cfg0.N :=
  (h c).1 7

/-- After the frame run, argument `main_arg0` is as launched: input window 0 stages it and never writes it back. -/
theorem kept_main_arg0 (r : PUnit × MemSt nD τ sig (Elt F)) (h : Pipeline.FramePost cfgs (dats m) 0 (V m) r) (c : Dev nD) :
    r.2.mem ((c : Thread nD τ).loc main_arg0) = m ((c : Thread nD τ).loc main_arg0) :=
  ((h c).1 0).trans (((dats m 0 c).arrAt_in 0 rfl _).trans ((A_eq m c 0).trans (V_main_arg0 m c)))

/-- After the frame run, argument `main_arg1` is as launched: input window 1 stages it and never writes it back. -/
theorem kept_main_arg1 (r : PUnit × MemSt nD τ sig (Elt F)) (h : Pipeline.FramePost cfgs (dats m) 0 (V m) r) (c : Dev nD) :
    r.2.mem ((c : Thread nD τ).loc main_arg1) = m ((c : Thread nD τ).loc main_arg1) :=
  ((h c).1 1).trans (((dats m 0 c).arrAt_in 1 rfl _).trans ((A_eq m c 1).trans (V_main_arg1 m c)))

/-- After the frame run, argument `main_arg2` is as launched: no window stages it, and the run leaves the region's other buffers as they were. -/
theorem kept_main_arg2 (r : PUnit × MemSt nD τ sig (Elt F)) (h : Pipeline.FramePost cfgs (dats m) 0 (V m) r) (c : Dev nD) :
    r.2.mem ((c : Thread nD τ).loc main_arg2) = m ((c : Thread nD τ).loc main_arg2) :=
  ((h c).2 main_arg2 (Pipeline.mem_restRefs_of main_arg2 (by decide) (by decide))).trans (V_main_arg2 m c)

/-- After the frame run, argument `main_arg3` is as launched: no window stages it, and the run leaves the region's other buffers as they were. -/
theorem kept_main_arg3 (r : PUnit × MemSt nD τ sig (Elt F)) (h : Pipeline.FramePost cfgs (dats m) 0 (V m) r) (c : Dev nD) :
    r.2.mem ((c : Thread nD τ).loc main_arg3) = m ((c : Thread nD τ).loc main_arg3) :=
  ((h c).2 main_arg3 (Pipeline.mem_restRefs_of main_arg3 (by decide) (by decide))).trans (V_main_arg3 m c)

/-- The frame run with each output array after the run NAMED — `(dats m 0 c).arrAt w N`, which `blocks_w` / `entry_w` read —,
    the arguments unchanged. -/
theorem run_blocks : θ_run defs (onTc (τ := τ) (main (F := F))) ⟨m, fun _ => 0, ρ⟩ fun r => ∀ c : Dev nD,
      r.2.mem ((c : Thread nD τ).loc main_v3_0) = (dats m 0 c).arrAt 4 cfg0.N
      ∧ r.2.mem ((c : Thread nD τ).loc main_v3_1) = (dats m 0 c).arrAt 5 cfg0.N
      ∧ r.2.mem ((c : Thread nD τ).loc main_v3_2) = (dats m 0 c).arrAt 6 cfg0.N
      ∧ r.2.mem ((c : Thread nD τ).loc main_v3_3) = (dats m 0 c).arrAt 7 cfg0.N
      ∧ r.2.mem ((c : Thread nD τ).loc main_arg0) = m ((c : Thread nD τ).loc main_arg0)
      ∧ r.2.mem ((c : Thread nD τ).loc main_arg1) = m ((c : Thread nD τ).loc main_arg1)
      ∧ r.2.mem ((c : Thread nD τ).loc main_arg2) = m ((c : Thread nD τ).loc main_arg2)
      ∧ r.2.mem ((c : Thread nD τ).loc main_arg3) = m ((c : Thread nD τ).loc main_arg3) :=
  (θ_run defs _ _).mono (fun r h c => ⟨post4 m r h c,
      post5 m r h c,
      post6 m r h c,
      post7 m r h c,
      kept_main_arg0 m r h c,
      kept_main_arg1 m r h c,
      kept_main_arg2 m r h c,
      kept_main_arg3 m r h c⟩)
    (run_main m ρ)

end Cert.ReferenceIdeal.Val

end
-- ==== Proof.RefOut.lean ====
module

public import proofs.«01_k».proof.Proof.RefRun
public import Idealize.ShloMosaic.Lib.Pipeline.ValueKit
public import Idealize.ShloMosaic.Lib.Pointwise
public import Idealize.ShloMosaic.Lib.Claim

/-! # The reference's output arrays as its payloads of the arguments -/

@[expose] public section

set_option maxHeartbeats 400000

noncomputable section

namespace Cert.ReferenceIdeal.Val

open Cert.ReferenceIdeal Cert.ReferenceIdeal.Gen Idealize.ShloMosaic Idealize.ShloMosaic.TcCoe Idealize.SL.Sem
open Idealize.ShloMosaic.Pipeline (Dat)

variable {F : FTy → Type} [FloatOps F]

section outs
variable (x0 : Vec F S6x256x1152 .bf16) (x1 : Vec F S1152x13824 .fp8e4m3) (x2 : Vec F S1x13824 .f32) (x3 : Vec F S6x128 .i32)
/-- The reference's first result, of its blocks. -/
def o4 : Vec F S6x256x6912 .fp8e4m3 :=
  k0_pay2 (k0_pay12 (k0_pay7 x3 x0) (k0_pay8 x0) (k0_pay9 (F := F) x3) (k0_pay10 (F := F)) x1 x2) (k0_pay13 (k0_pay4 (F := F) x3))
    (k0_pay14 (k0_pay7 x3 x0) (k0_pay8 x0) (k0_pay9 (F := F) x3) (k0_pay10 (F := F)) x1 x2)
    (k0_pay15 (k0_pay7 x3 x0) (k0_pay8 x0) (k0_pay9 (F := F) x3) (k0_pay10 (F := F)) x1 x2)
    (k0_pay16 (k0_pay7 x3 x0) (k0_pay8 x0) (k0_pay9 (F := F) x3) (k0_pay10 (F := F)) x1 x2) (Scalar.ofBits .f32 0x7B800000#32)
/-- The reference's second result, of its blocks. -/
def o5 : Vec F S6x256x54 .f32 :=
  k0_pay3 (k0_pay13 (k0_pay4 (F := F) x3))
    (k0_pay14 (k0_pay7 x3 x0) (k0_pay8 x0) (k0_pay9 (F := F) x3) (k0_pay10 (F := F)) x1 x2)
    (k0_pay15 (k0_pay7 x3 x0) (k0_pay8 x0) (k0_pay9 (F := F) x3) (k0_pay10 (F := F)) x1 x2)
    (k0_pay16 (k0_pay7 x3 x0) (k0_pay8 x0) (k0_pay9 (F := F) x3) (k0_pay10 (F := F)) x1 x2) (Scalar.ofBits .f32 0x7B800000#32)

theorem ld0 : View.ld (Val := Elt F) x0 r0_1 = x0 := View.ld_unit_lit _ x0 (by decide)
theorem ld1 : View.ld (Val := Elt F) x1 r0_2 = x1 := View.ld_unit_lit _ x1 (by decide)
theorem ld2 : View.ld (Val := Elt F) x2 r0_3 = x2 := View.ld_unit_lit _ x2 (by decide)
theorem ld3 : View.ld (Val := Elt F) x3 r0_0 = x3 := View.ld_unit_lit _ x3 (by decide)

/-- The body's stores to the outputs, as payloads of its blocks. -/
theorem out4_eq : out0_4 x0 x1 x2 x3 = o4 x0 x1 x2 x3 := by
  unfold out0_4 k0_pay24 k0_pay23 k0_pay22 k0_pay21 k0_pay20 k0_pay19 k0_pay18 k0_pay17
  rw [ld0, ld1, ld2, ld3]
  exact View.canon_cons_unit_lit _ _ [] (by decide)
theorem out5_eq : out0_5 x0 x1 x2 x3 = o5 x0 x1 x2 x3 := by
  unfold out0_5 k0_pay24 k0_pay23 k0_pay22 k0_pay21 k0_pay20 k0_pay19 k0_pay18 k0_pay17
  rw [ld0, ld1, ld2, ld3]
  exact View.canon_cons_unit_lit _ _ [] (by decide)
theorem out6_eq : out0_6 x0 x1 x2 x3 = k0_pay11 (k0_pay8 x0) (k0_pay9 (F := F) x3) (k0_pay10 (F := F)) := by
  unfold out0_6 k0_pay20 k0_pay19 k0_pay18
  rw [ld0, ld3]
  exact View.canon_cons_unit_lit _ _ [] (by decide)
theorem out7_eq : out0_7 x0 x1 x2 x3 = k0_pay7 x3 x0 := by
  unfold out0_7 k0_pay17
  rw [ld0, ld3]
  exact View.canon_cons_unit_lit _ _ [] (by decide)
end outs

variable (m : (ℓ : Loc nD τ sig) → Buf (Elt F) ℓ) (c : Dev nD)

/-- The one grid point. -/
abbrev t0 : Fin cfg0.N := ⟨0, by decide⟩
theorem only : ∀ t : Fin cfg0.N, t = t0 := (by decide +kernel : ∀ t : Fin grid0.N, t = ⟨0, by decide⟩)

/-- The windows are the whole arguments; the column scales and the lengths are the arguments spread over their arrays. -/
theorem blk0 (t : Fin cfg0.N) : iblk m c 0 t = m ((c.tc : Thread nD τ).loc main_arg0) := by
  funext y
  have e : ∀ (t : Fin cfg0.N) a, win0_0.index t a = 0 := fun _ _ => rfl
  blk_ext! [iblk, e]
theorem blk1 (t : Fin cfg0.N) : iblk m c 1 t = m ((c.tc : Thread nD τ).loc main_arg1) := by
  funext y
  have e : ∀ (t : Fin cfg0.N) a, win0_1.index t a = 0 := fun _ _ => rfl
  blk_ext! [iblk, e]
theorem blk2 (t : Fin cfg0.N) (k : Fin 13824) : iblk m c 2 t (ix2 0 k) = m ((c.tc : Thread nD τ).loc main_arg2) (ix1 k) := by
  have e : ∀ (t : Fin cfg0.N) a, win0_2.index t a = 0 := fun _ _ => rfl
  blk_ext! [iblk, e]
theorem blk3 (t : Fin cfg0.N) (b : Fin 6) (k : Fin 128) : iblk m c 3 t (ix2 b k) = m ((c.tc : Thread nD τ).loc main_arg3) (ix1 b) := by
  have e : ∀ (t : Fin cfg0.N) a, win0_3.index t a = 0 := fun _ _ => rfl
  blk_ext! [iblk, e]
/-- Each output array is the body's result at the one grid point. -/
theorem arr4 : (dats m 0 c).arrAt 4 cfg0.N = o4 (iblk m c 0 t0) (iblk m c 1 t0) (iblk m c 2 t0) (iblk m c 3 t0) := by
  refine (dats m 0 c).arrAt_eq_of_covers 4 _ (by decide +kernel) fun t hf y => ?_
  obtain rfl : t = t0 := only t
  have e : ∀ (t : Fin cfg0.N) a, win0_4.index t a = 0 := fun _ _ => rfl
  blk_simp
  rw [after0_4, out4_eq]
  refine congrArg _ ?_
  blk_ext [e]
theorem arr5 : (dats m 0 c).arrAt 5 cfg0.N = o5 (iblk m c 0 t0) (iblk m c 1 t0) (iblk m c 2 t0) (iblk m c 3 t0) := by
  refine (dats m 0 c).arrAt_eq_of_covers 5 _ (by decide +kernel) fun t hf y => ?_
  obtain rfl : t = t0 := only t
  have e : ∀ (t : Fin cfg0.N) a, win0_5.index t a = 0 := fun _ _ => rfl
  blk_simp
  rw [after0_5, out5_eq]
  refine congrArg _ ?_
  blk_ext [e]
theorem arr6 : (dats m 0 c).arrAt 6 cfg0.N = k0_pay11 (k0_pay8 (iblk m c 0 t0)) (k0_pay9 (F := F) (iblk m c 3 t0)) (k0_pay10 (F := F)) := by
  refine (dats m 0 c).arrAt_eq_of_covers 6 _ (by decide +kernel) fun t hf y => ?_
  obtain rfl : t = t0 := only t
  have e : ∀ (t : Fin cfg0.N) a, win0_6.index t a = 0 := fun _ _ => rfl
  blk_simp
  rw [after0_6, out6_eq]
  refine congrArg _ ?_
  blk_ext [e]
theorem arr7 : (dats m 0 c).arrAt 7 cfg0.N = k0_pay7 (iblk m c 3 t0) (iblk m c 0 t0) := by
  refine (dats m 0 c).arrAt_eq_of_covers 7 _ (by decide +kernel) fun t hf y => ?_
  obtain rfl : t = t0 := only t
  have e : ∀ (t : Fin cfg0.N) a, win0_7.index t a = 0 := fun _ _ => rfl
  blk_simp
  rw [after0_7, out7_eq]
  refine congrArg _ ?_
  blk_ext [e]

end Cert.ReferenceIdeal.Val
-- ==== Proof.RefSpec.lean ====
module

public import proofs.«01_k».proof.Proof.RefOut
public import proofs.«01_k».proof.Proof.SpecOut

/-! # The reference computes the four results -/

@[expose] public section

set_option maxRecDepth 16384
set_option maxHeartbeats 400000

noncomputable section

namespace Cert.Spec

open Idealize.ShloMosaic Idealize.ShloMosaic.TcCoe
open Cert.ReferenceIdeal Cert.ReferenceIdeal.Gen Cert.ReferenceIdeal.Val

section blocks
variable (X : Vec Ideal S6x256x1152 .bf16) (W : Vec Ideal S1152x13824 .fp8e4m3) (w : Vec Ideal S13824 .f32) (len : Vec Ideal S6 .i32)
variable (x2 : Vec Ideal S1x13824 .f32) (x3 : Vec Ideal S6x128 .i32)

theorem ref_C (h3 : ∀ b k, x3 (ix2 b k) = len (ix1 b)) (b : Fin 6) (r : Fin 256) (k : Fin 1152) :
    k0_pay11 (F := Ideal) (k0_pay8 (F := Ideal) X) (k0_pay9 (F := Ideal) x3) (k0_pay10 (F := Ideal)) (ix3 b r k) = sC X len b r k := by
  rw [ref_code, h3]
  rfl
theorem ref_S (h3 : ∀ b k, x3 (ix2 b k) = len (ix1 b)) (b : Fin 6) (r : Fin 256) :
    k0_pay7 (F := Ideal) x3 X (ix3 b r 0) = sS X len b r := by
  rw [ref_scale, h3]
  rfl
theorem ref_L (h3 : ∀ b k, x3 (ix2 b k) = len (ix1 b)) (b : Fin 6) (r : Fin 256) :
    k0_pay4 (F := Ideal) x3 (ix3 b r 0) = sL len b r := by
  rw [pay4_at, h3]
  rfl
/-- The reference's gated product of a row. -/
theorem ref_H (h2 : ∀ k, x2 (ix2 0 k) = w (ix1 k)) (h3 : ∀ b k, x3 (ix2 b k) = len (ix1 b)) (b : Fin 6) (r : Fin 256) :
    hRow (k0_pay7 (F := Ideal) x3 X) (k0_pay11 (F := Ideal) (k0_pay8 (F := Ideal) X) (k0_pay9 (F := Ideal) x3) (k0_pay10 (F := Ideal))) W x2 b r
      = sH X W w len b r := by
  have h1 := funext (ref_C X len x3 h3 b r)
  have h4 := ref_S X len x3 h3 b r
  have h5 : (fun c : Fin 13824 => x2 (ix2 0 c)) = fun c => w (ix1 c) := funext h2
  unfold hRow sH
  rw [h1, h4, h5]
theorem ref_o4_at (h2 : ∀ k, x2 (ix2 0 k) = w (ix1 k)) (h3 : ∀ b k, x3 (ix2 b k) = len (ix1 b)) (b : Fin 6) (r : Fin 256) (c : Fin 6912) :
    o4 (F := Ideal) X W x2 x3 (ix3 b r c) = sHC X W w len b r c (grp c) := by
  have hg : c.val = 128 * (c.val / 128) + c.val % 128 := by omega
  have h := ref_hcode (k0_pay4 (F := Ideal) x3) (k0_pay7 (F := Ideal) x3 X) W x2 b r (k0_pay8 (F := Ideal) X) (k0_pay10 (F := Ideal)) (k0_pay9 (F := Ideal) x3)
    (grp c) ⟨c.val % 128, by omega⟩ c hg
  rw [ref_H X W w len x2 x3 h2 h3, ref_L len x3 h3] at h
  exact h
theorem ref_o4 (h2 : ∀ k, x2 (ix2 0 k) = w (ix1 k)) (h3 : ∀ b k, x3 (ix2 b k) = len (ix1 b)) :
    o4 (F := Ideal) X W x2 x3 = V0 X W w len := by
  funext j
  rw [eq_ix3 j]
  exact ref_o4_at X W w len x2 x3 h2 h3 (j 0) (j 1) (j 2)
theorem ref_o5_at (h2 : ∀ k, x2 (ix2 0 k) = w (ix1 k)) (h3 : ∀ b k, x3 (ix2 b k) = len (ix1 b)) (b : Fin 6) (r : Fin 256) (g : Fin 54) :
    o5 (F := Ideal) X W x2 x3 (ix3 b r g) = sHS X W w len b r g := by
  have h := ref_hscale (k0_pay4 (F := Ideal) x3) (k0_pay7 (F := Ideal) x3 X) W x2 b r (k0_pay8 (F := Ideal) X) (k0_pay10 (F := Ideal)) (k0_pay9 (F := Ideal) x3) g
  rw [ref_H X W w len x2 x3 h2 h3, ref_L len x3 h3] at h
  exact h
theorem ref_o5 (h2 : ∀ k, x2 (ix2 0 k) = w (ix1 k)) (h3 : ∀ b k, x3 (ix2 b k) = len (ix1 b)) :
    o5 (F := Ideal) X W x2 x3 = V1 X W w len := by
  funext j
  rw [eq_ix3 j]
  exact ref_o5_at X W w len x2 x3 h2 h3 (j 0) (j 1) (j 2)
theorem ref_o6 (h3 : ∀ b k, x3 (ix2 b k) = len (ix1 b)) :
    k0_pay11 (F := Ideal) (k0_pay8 (F := Ideal) X) (k0_pay9 (F := Ideal) x3) (k0_pay10 (F := Ideal)) = V2 X len := by
  funext j
  rw [eq_ix3 j]
  exact ref_C X len x3 h3 (j 0) (j 1) (j 2)
theorem ref_o7 (h3 : ∀ b k, x3 (ix2 b k) = len (ix1 b)) : k0_pay7 (F := Ideal) x3 X = V3 X len := by
  funext j
  have hj : j = ix3 (j 0) (j 1) 0 := by
    refine (eq_ix3 j).trans ?_
    congr 1
    exact Subsingleton.elim (α := Fin 1) _ _
  rw [hj]
  exact ref_S X len x3 h3 (j 0) (j 1)
end blocks

variable (m : (ℓ : Loc nD τ sig) → Buf (Elt Ideal) ℓ) (c : Dev nD)
/-- The reference's first result. -/
theorem ref_arr4 : (dats m 0 c).arrAt 4 cfg0.N = V0 (m ((c.tc : Thread nD τ).loc main_arg0)) (m ((c.tc : Thread nD τ).loc main_arg1)) (m ((c.tc : Thread nD τ).loc main_arg2)) (m ((c.tc : Thread nD τ).loc main_arg3)) := by
  rw [arr4, blk0, blk1]
  exact ref_o4 _ _ _ _ _ _ (fun k => blk2 m c t0 k) (fun b k => blk3 m c t0 b k)
/-- The reference's second result. -/
theorem ref_arr5 : (dats m 0 c).arrAt 5 cfg0.N = V1 (m ((c.tc : Thread nD τ).loc main_arg0)) (m ((c.tc : Thread nD τ).loc main_arg1)) (m ((c.tc : Thread nD τ).loc main_arg2)) (m ((c.tc : Thread nD τ).loc main_arg3)) := by
  rw [arr5, blk0, blk1]
  exact ref_o5 _ _ _ _ _ _ (fun k => blk2 m c t0 k) (fun b k => blk3 m c t0 b k)
/-- The reference's third result. -/
theorem ref_arr6 : (dats m 0 c).arrAt 6 cfg0.N = V2 (m ((c.tc : Thread nD τ).loc main_arg0)) (m ((c.tc : Thread nD τ).loc main_arg3)) := by
  rw [arr6, blk0]
  exact ref_o6 _ _ _ (fun b k => blk3 m c t0 b k)
/-- The reference's fourth result. -/
theorem ref_arr7 : (dats m 0 c).arrAt 7 cfg0.N = V3 (m ((c.tc : Thread nD τ).loc main_arg0)) (m ((c.tc : Thread nD τ).loc main_arg3)) := by
  rw [arr7, blk0]
  exact ref_o7 _ _ _ (fun b k => blk3 m c t0 b k)
end Cert.Spec
-- ==== Proof.Algebraic.lean ====
module

public import proofs.«01_k».proof.Defs
public import proofs.«01_k».proof.Proof.KerSpec
public import proofs.«01_k».proof.Proof.RefSpec
public import proofs.«01_k».proof.Proof.Gen.KernelIdeal
public import proofs.«01_k».proof.Proof.Gen.ReferenceIdeal

/-! # The kernel and the reference end with equal results -/

@[expose] public section

set_option maxHeartbeats 400000

noncomputable section

namespace Cert.Spec

open Idealize.ShloMosaic Idealize.SL.Sem

/-- From memories that agree on the four arguments, the kernel and the reference both run, over the extended reals, to the same four results
    and leave their arguments as they were. -/
theorem algebraic : Cert.algebraic_KernelIdeal_ReferenceIdeal (hKernelIdeal := Cert.KernelIdeal.Gen.facts) (hReferenceIdeal := Cert.ReferenceIdeal.Gen.facts) := by
  intro m g m' g' _ hm
  refine ⟨fun c => V0 (aX m c) (aW m c) (aw m c) (aL m c), fun c => V1 (aX m c) (aW m c) (aw m c) (aL m c),
    fun c => V2 (aX m c) (aL m c), fun c => V3 (aX m c) (aL m c), ?_, ?_⟩
  · refine (θ_run Cert.KernelIdeal.defs _ _).mono (fun r h c => ?_) (Cert.KernelIdeal.Blk.run_named m g)
    obtain ⟨⟨h0, h1, h2, h3⟩, h4⟩ := h c
    exact ⟨h0.trans (ker_arr6 m c), h1.trans (ker_v2 m c), h2.trans (ker_arr8 m c), h3.trans (ker_v3 m c), h4⟩
  · refine (θ_run Cert.ReferenceIdeal.defs _ _).mono (fun r h c => ?_) (Cert.ReferenceIdeal.Val.run_blocks m' g')
    obtain ⟨h0, h1, h2, h3, h4⟩ := h c
    obtain ⟨e0, e1, e2, e3⟩ := hm c
    have k0 := ref_arr4 m' c
    have k1 := ref_arr5 m' c
    have k2 := ref_arr6 m' c
    have k3 := ref_arr7 m' c
    rw [e0, e1, e2, e3] at k0 k1
    rw [e0, e3] at k2 k3
    exact ⟨h0.trans k0, h1.trans k1, h2.trans k2, h3.trans k3, h4⟩

end Cert.Spec
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Frames
public import proofs.«01_k».proof.Proof.Algebraic

/-! # The proof of the claim -/

@[expose] public section

noncomputable section

namespace Cert.Proof

open Idealize.ShloMosaic Idealize.SL.Sem

theorem claim : Cert.Claim :=
  ⟨Cert.Kernel.Gen.facts, Cert.KernelIdeal.Gen.facts, Cert.ReferenceIdeal.Gen.facts, kernel_frame, ideal_frame,
    fun m g _ => Cert.ReferenceIdeal.Gen.frame m g, trivial,
    Cert.Spec.algebraic⟩

end Cert.Proof

end
